-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_tail_biases [hPre_zero_tail_biases : Cert.Pre_zero_tail_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_tail_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_tail_biases [hPre_zero_tail_biases : Cert.Pre_zero_tail_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_tail_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_zero_tail_biases [hKernelIdeal : Cert.KernelIdeal.Facts] [hPre_zero_tail_biases : Cert.Pre_zero_tail_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_tail_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_zero_tail_biases [hReferenceIdeal : Cert.ReferenceIdeal.Facts] [hPre_zero_tail_biases : Cert.Pre_zero_tail_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_tail_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_zero_tail_biases [hKernelIdeal : Cert.KernelIdeal.Facts] [hReferenceIdeal : Cert.ReferenceIdeal.Facts] [hPre_zero_tail_biases : Cert.Pre_zero_tail_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_tail_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_zero_tail_biases : Cert.Pre_zero_tail_biases.Facts),
    quiescent_Kernel (hKernel := hKernel)
    ∧ quiescent_KernelIdeal (hKernelIdeal := hKernelIdeal)
    ∧ quiescent_KernelIdeal_pre_zero_tail_biases (hKernelIdeal := hKernelIdeal) (hPre_zero_tail_biases := hPre_zero_tail_biases)
    ∧ quiescent_ReferenceIdeal (hReferenceIdeal := hReferenceIdeal)
    ∧ quiescent_ReferenceIdeal_pre_zero_tail_biases (hReferenceIdeal := hReferenceIdeal) (hPre_zero_tail_biases := hPre_zero_tail_biases)
    ∧ preserves_Kernel_KernelIdeal
    ∧ algebraic_KernelIdeal_ReferenceIdeal_pre_zero_tail_biases (hKernelIdeal := hKernelIdeal) (hReferenceIdeal := hReferenceIdeal) (hPre_zero_tail_biases := hPre_zero_tail_biases)
-- ==== Pre_zero_tail_biases.lean ====
abbrev S8192x256 : Shape := ⟨2, ![8192, 256]⟩
abbrev S8192 : Shape := ⟨1, ![8192]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S256 : S_.BroadcastsInDim S256 (![] : Fin 0 → Fin S256.rank)
  reducesTo_S256_S_d0 : S256.ReducesTo [0] S_
  bcast_S_S8192x256 : S_.BroadcastsInDim S8192x256 (![] : Fin 0 → Fin S8192x256.rank)
  reducesTo_S8192x256_S_d0_1 : S8192x256.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg6 : FVec F S128x256 .f32) (main_v30 : IVec S_ 1) (main_v31 : FVec F S128 .f32) (main_v32 : FVec F S128 .f32) : IVec S_ 1 :=
  let main_v33 : IVec S128 1 := cmpf .olt main_v31 main_v32
  let main_c_13 : IVec S_ 1 := constantI S_ 1 1#1
  let main_v34 : IVec S_ 1 := (fun x v => Host.reduce IntOp.andi x v reducesTo_S128_S_d0 h_S_) main_v33 main_c_13
  let main_v35 : IVec S_ 1 := andi main_v30 main_v34
  let main_v36 : FVec F S128x256 .f32 := Host.absf main_arg6
  let main_cst_14 : FVec F S_ .f32 := constant S_ .f32 0x7F800000#32
  let main_v37 : FVec F S128x256 .f32 := broadcastInDim S128x256 ![] bcast_S_S128x256 main_cst_14
  let main_v38 : IVec S128x256 1 := cmpf .olt main_v36 main_v37
  let main_c_15 : IVec S_ 1 := constantI S_ 1 1#1
  let main_v39 : IVec S_ 1 := (fun x v => Host.reduce IntOp.andi x v reducesTo_S128x256_S_d0_1 h_S_) main_v38 main_c_15
  let main_v40 : IVec S_ 1 := andi main_v35 main_v39
  main_v40

def fn_part1 {F : FTy → Type} [FloatOps F] (main_arg2 : FVec F S256x256 .f32) (main_arg3 : FVec F S256 .f32) (main_arg4 : FVec F S256x128 .f32) (main_arg5 : FVec F S128 .f32) (main_arg6 : FVec F S128x256 .f32) (main_v15 : IVec S_ 1) : IVec S_ 1 :=
  let main_v16 : FVec F S256x256 .f32 := Host.absf main_arg2
  let main_cst_6 : FVec F S_ .f32 := constant S_ .f32 0x7F800000#32
  let main_v17 : FVec F S256x256 .f32 := broadcastInDim S256x256 ![] bcast_S_S256x256 main_cst_6
  let main_v18 : IVec S256x256 1 := cmpf .olt main_v16 main_v17
  let main_c_7 : IVec S_ 1 := constantI S_ 1 1#1
  let main_v19 : IVec S_ 1 := (fun x v => Host.reduce IntOp.andi x v reducesTo_S256x256_S_d0_1 h_S_) main_v18 main_c_7
  let main_v20 : IVec S_ 1 := andi main_v15 main_v19
  let main_v21 : FVec F S256 .f32 := Host.absf main_arg3
  let main_cst_8 : FVec F S_ .f32 := constant S_ .f32 0x7F800000#32
  let main_v22 : FVec F S256 .f32 := broadcastInDim S256 ![] bcast_S_S256 main_cst_8
  let main_v23 : IVec S256 1 := cmpf .olt main_v21 main_v22
  let main_c_9 : IVec S_ 1 := constantI S_ 1 1#1
  let main_v24 : IVec S_ 1 := (fun x v => Host.reduce IntOp.andi x v reducesTo_S256_S_d0 h_S_) main_v23 main_c_9
  let main_v25 : IVec S_ 1 := andi main_v20 main_v24
  let main_v26 : FVec F S256x128 .f32 := Host.absf main_arg4
  let main_cst_10 : FVec F S_ .f32 := constant S_ .f32 0x7F800000#32
  let main_v27 : FVec F S256x128 .f32 := broadcastInDim S256x128 ![] bcast_S_S256x128 main_cst_10
  let main_v28 : IVec S256x128 1 := cmpf .olt main_v26 main_v27
  let main_c_11 : IVec S_ 1 := constantI S_ 1 1#1
  let main_v29 : IVec S_ 1 := (fun x v => Host.reduce IntOp.andi x v reducesTo_S256x128_S_d0_1 h_S_) main_v28 main_c_11
  let main_v30 : IVec S_ 1 := andi main_v25 main_v29
  let main_v31 : FVec F S128 .f32 := Host.absf main_arg5
  let main_cst_12 : FVec F S_ .f32 := constant S_ .f32 0x7F800000#32
  let main_v32 : FVec F S128 .f32 := broadcastInDim S128 ![] bcast_S_S128 main_cst_12
  fn_part2 (F := F) main_arg6 main_v30 main_v31 main_v32

def fn {F : FTy → Type} [FloatOps F] (main_arg0 : FVec F S8192x256 .f32) (main_arg1 : FVec F S8192 .f32) (main_arg2 : FVec F S256x256 .f32) (main_arg3 : FVec F S256 .f32) (main_arg4 : FVec F S256x128 .f32) (main_arg5 : FVec F S128 .f32) (main_arg6 : FVec F S128x256 .f32) (main_arg7 : FVec F S256 .f32) (main_arg8 : FVec F S256x128 .f32) (main_arg9 : FVec F S128 .f32) (main_arg10 : FVec F S128x256 .f32) (main_arg11 : FVec F S256 .f32) (main_arg12 : FVec F S256x128 .f32) (main_arg13 : FVec F S128 .f32) : IVec S_ 1 :=
  let main_cst : FVec F S_ .f32 := constant S_ .f32 0x00000000#32
  let main_v0 : FVec F S128 .f32 := broadcastInDim S128 ![] bcast_S_S128 main_cst
  let main_v1 : IVec S128 1 := cmpf .oeq main_arg9 main_v0
  let main_c : IVec S_ 1 := constantI S_ 1 1#1
  let main_v2 : IVec S_ 1 := (fun x v => Host.reduce IntOp.andi x v reducesTo_S128_S_d0 h_S_) main_v1 main_c
  let main_cst_0 : FVec F S_ .f32 := constant S_ .f32 0x00000000#32
  let main_v3 : FVec F S256 .f32 := broadcastInDim S256 ![] bcast_S_S256 main_cst_0
  let main_v4 : IVec S256 1 := cmpf .oeq main_arg11 main_v3
  let main_c_1 : IVec S_ 1 := constantI S_ 1 1#1
  let main_v5 : IVec S_ 1 := (fun x v => Host.reduce IntOp.andi x v reducesTo_S256_S_d0 h_S_) main_v4 main_c_1
  let main_v6 : IVec S_ 1 := andi main_v2 main_v5
  let main_cst_2 : FVec F S_ .f32 := constant S_ .f32 0x00000000#32
  let main_v7 : FVec F S128 .f32 := broadcastInDim S128 ![] bcast_S_S128 main_cst_2
  let main_v8 : IVec S128 1 := cmpf .oeq main_arg13 main_v7
  let main_c_3 : IVec S_ 1 := constantI S_ 1 1#1
  let main_v9 : IVec S_ 1 := (fun x v => Host.reduce IntOp.andi x v reducesTo_S128_S_d0 h_S_) main_v8 main_c_3
  let main_v10 : IVec S_ 1 := andi main_v6 main_v9
  let main_v11 : FVec F S8192x256 .f32 := Host.absf main_arg0
  let main_cst_4 : FVec F S_ .f32 := constant S_ .f32 0x7F800000#32
  let main_v12 : FVec F S8192x256 .f32 := broadcastInDim S8192x256 ![] bcast_S_S8192x256 main_cst_4
  let main_v13 : IVec S8192x256 1 := cmpf .olt main_v11 main_v12
  let main_c_5 : IVec S_ 1 := constantI S_ 1 1#1
  let main_v14 : IVec S_ 1 := (fun x v => Host.reduce IntOp.andi x v reducesTo_S8192x256_S_d0_1 h_S_) main_v13 main_c_5
  let main_v15 : IVec S_ 1 := andi main_v10 main_v14
  fn_part1 (F := F) main_arg2 main_arg3 main_arg4 main_arg5 main_arg6 main_v15
-- ==== Kernel.lean ====
abbrev S8192x256 : Shape := ⟨2, ![8192, 256]⟩
abbrev S8192 : Shape := ⟨1, ![8192]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S1x256 : Shape := ⟨2, ![1, 256]⟩
abbrev S1x128 : Shape := ⟨2, ![1, 128]⟩
abbrev S8192x128 : Shape := ⟨2, ![8192, 128]⟩
abbrev S128x128 : Shape := ⟨2, ![128, 128]⟩
abbrev S128x1 : Shape := ⟨2, ![128, 1]⟩

abbrev nBuf : Space → Nat
  | .hbm => 21
  | .vmem => 17
  | .smem => 0
  | _ => 0

abbrev bufTy : (tb : Table) → Fin (tcTables nBuf tb) → BufTy
  | .hbm, ⟨0, _⟩ => ⟨S8192x256, .f32⟩
  | .hbm, ⟨1, _⟩ => ⟨S8192, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S1x256, .f32⟩
  | .hbm, ⟨15, _⟩ => ⟨S1x128, .f32⟩
  | .hbm, ⟨16, _⟩ => ⟨S1x256, .f32⟩
  | .hbm, ⟨17, _⟩ => ⟨S1x128, .f32⟩
  | .hbm, ⟨18, _⟩ => ⟨S1x256, .f32⟩
  | .hbm, ⟨19, _⟩ => ⟨S1x128, .f32⟩
  | .hbm, ⟨20, _⟩ => ⟨S8192x128, .f32⟩
  | .local _ .vmem, ⟨0, _⟩ => ⟨S8192x256, .f32⟩
  | .local _ .vmem, ⟨1, _⟩ => ⟨S256x256, .f32⟩
  | .local _ .vmem, ⟨2, _⟩ => ⟨S1x256, .f32⟩
  | .local _ .vmem, ⟨3, _⟩ => ⟨S256x128, .f32⟩
  | .local _ .vmem, ⟨4, _⟩ => ⟨S1x128, .f32⟩
  | .local _ .vmem, ⟨5, _⟩ => ⟨S128x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S128x256, .f32⟩
  | .local _ .vmem, ⟨10, _⟩ => ⟨S1x256, .f32⟩
  | .local _ .vmem, ⟨11, _⟩ => ⟨S256x128, .f32⟩
  | .local _ .vmem, ⟨12, _⟩ => ⟨S1x128, .f32⟩
  | .local _ .vmem, ⟨13, _⟩ => ⟨S8192x128, .f32⟩
  | .local _ .vmem, ⟨14, _⟩ => ⟨S8192x128, .f32⟩
  | .local _ .vmem, ⟨15, _⟩ => ⟨S8192x256, .f32⟩
  | .local _ .vmem, ⟨16, _⟩ => ⟨S8192x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c8191_i32 : BitVec 32 := 8191#32
  let v57 : BitVec 32 := Scalar.addi c1_i32 c8191_i32
  let c1_i32_38 : BitVec 32 := 1#32
  ⟨c1_i32, v57, c1_i32_38⟩
def k0_off1 (k0_t1 : Fin k0_t1_loop.trips) : Fin 2 → Nat :=
  let c8191_i32_50 : BitVec 32 := 8191#32
  let c1_i32 : BitVec 32 := 1#32
  let c1_i32_38 : BitVec 32 := 1#32
  let arg17 : BitVec 32 := Scf.iv c1_i32 c1_i32_38 k0_t1
  let v67 : BitVec 32 := Scalar.subi c8191_i32_50 arg17
  let v74 : Index := Scalar.indexCast v67
  let c0_53 : Index := 0#32
  ![v74.toNat, 0]
abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ReferenceIdeal.lean ====
abbrev S8192x256 : Shape := ⟨2, ![8192, 256]⟩
abbrev S8192 : Shape := ⟨1, ![8192]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S_ : Shape := ⟨0, ![]⟩
abbrev S1 : Shape := ⟨1, ![1]⟩
abbrev S8191 : Shape := ⟨1, ![8191]⟩
abbrev S8192x128 : Shape := ⟨2, ![8192, 128]⟩
abbrev S1x256 : Shape := ⟨2, ![1, 256]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S8192x256, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S8191, .f32⟩
  | .hbm, ⟨19, _⟩ => ⟨S8192, .f32⟩
  | .hbm, ⟨20, _⟩ => ⟨S_, .f32⟩
  | .hbm, ⟨21, _⟩ => ⟨S128, .f32⟩
  | .hbm, ⟨22, _⟩ => ⟨S_, .f32⟩
  | .hbm, ⟨23, _⟩ => ⟨S8192x128, .f32⟩
  | .hbm, ⟨24, _⟩ => ⟨S_, .i32⟩
  | .hbm, ⟨25, _⟩ => ⟨S8192x256, .f32⟩
  | .hbm, ⟨26, _⟩ => ⟨S8192, .f32⟩
  | .hbm, ⟨27, _⟩ => ⟨S256x256, .f32⟩
  | .hbm, ⟨28, _⟩ => ⟨S256, .f32⟩
  | .hbm, ⟨29, _⟩ => ⟨S256x128, .f32⟩
  | .hbm, ⟨30, _⟩ => ⟨S128, .f32⟩
  | .hbm, ⟨31, _⟩ => ⟨S128x256, .f32⟩
  | .hbm, ⟨32, _⟩ => ⟨S256, .f32⟩
  | .hbm, ⟨33, _⟩ => ⟨S256x128, .f32⟩
  | .hbm, ⟨34, _⟩ => ⟨S128, .f32⟩
  | .hbm, ⟨35, _⟩ => ⟨S128x256, .f32⟩
  | .hbm, ⟨36, _⟩ => ⟨S256, .f32⟩
  | .hbm, ⟨37, _⟩ => ⟨S256x128, .f32⟩
  | .hbm, ⟨38, _⟩ => ⟨S128, .f32⟩
  | .hbm, ⟨39, _⟩ => ⟨S_, .i32⟩
  | .hbm, ⟨40, _⟩ => ⟨S128, .f32⟩
  | .hbm, ⟨41, _⟩ => ⟨S8192x128, .f32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S1x256, .f32⟩
  | .hbm, ⟨46, _⟩ => ⟨S256, .f32⟩
  | .hbm, ⟨47, _⟩ => ⟨S1, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S_, .f32⟩
  | .hbm, ⟨52, _⟩ => ⟨S256, .f32⟩
  | .hbm, ⟨53, _⟩ => ⟨S256, .i1⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S256, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .i1⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S256, .f32⟩
  | .hbm, ⟨68, _⟩ => ⟨S256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S128, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S256, .f32⟩
  | .hbm, ⟨81, _⟩ => ⟨S256, .f32⟩
  | .hbm, ⟨82, _⟩ => ⟨S_, .f32⟩
  | .hbm, ⟨83, _⟩ => ⟨S256, .f32⟩
  | .hbm, ⟨84, _⟩ => ⟨S256, .f32⟩
  | .hbm, ⟨85, _⟩ => ⟨S128, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S_, .i32⟩
  | .hbm, ⟨93, _⟩ => ⟨S8192x128, .f32⟩
  | .hbm, ⟨94, _⟩ => ⟨S_, .i32⟩
  | .hbm, ⟨95, _⟩ => ⟨S_, .i32⟩
  | .hbm, ⟨96, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_c : Ref sig .tc := ⟨.hbm, 24, rfl⟩
abbrev main_v6_0 : Ref sig .tc := ⟨.hbm, 25, rfl⟩
abbrev main_v6_1 : Ref sig .tc := ⟨.hbm, 26, rfl⟩
abbrev main_v6_2 : Ref sig .tc := ⟨.hbm, 27, rfl⟩
abbrev main_v6_3 : Ref sig .tc := ⟨.hbm, 28, rfl⟩
abbrev main_v6_4 : Ref sig .tc := ⟨.hbm, 29, rfl⟩
abbrev main_v6_5 : Ref sig .tc := ⟨.hbm, 30, rfl⟩
abbrev main_v6_6 : Ref sig .tc := ⟨.hbm, 31, rfl⟩
abbrev main_v6_7 : Ref sig .tc := ⟨.hbm, 32, rfl⟩
abbrev main_v6_8 : Ref sig .tc := ⟨.hbm, 33, rfl⟩
abbrev main_v6_9 : Ref sig .tc := ⟨.hbm, 34, rfl⟩
abbrev main_v6_10 : Ref sig .tc := ⟨.hbm, 35, rfl⟩
abbrev main_v6_11 : Ref sig .tc := ⟨.hbm, 36, rfl⟩
abbrev main_v6_12 : Ref sig .tc := ⟨.hbm, 37, rfl⟩
abbrev main_v6_13 : Ref sig .tc := ⟨.hbm, 38, rfl⟩
abbrev main_v6_14 : Ref sig .tc := ⟨.hbm, 39, rfl⟩
abbrev main_v6_15 : Ref sig .tc := ⟨.hbm, 40, rfl⟩
abbrev main_v6_16 : Ref sig .tc := ⟨.hbm, 41, rfl⟩
abbrev main_while0c_c_19 : Ref sig .tc := ⟨.hbm, 42, rfl⟩
abbrev main_while0c_v8 : Ref sig .tc := ⟨.hbm, 43, rfl⟩
abbrev main_while0b_call0_c : Ref sig .tc := ⟨.hbm, 44, rfl⟩
abbrev main_while0b_call0_v0 : Ref sig .tc := ⟨.hbm, 45, rfl⟩
abbrev main_while0b_v8 : Ref sig .tc := ⟨.hbm, 46, rfl⟩
abbrev main_while0b_call1_v0 : Ref sig .tc := ⟨.hbm, 47, rfl⟩
abbrev main_while0b_v9 : Ref sig .tc := ⟨.hbm, 48, rfl⟩
abbrev main_while0b_v10 : Ref sig .tc := ⟨.hbm, 49, rfl⟩
abbrev main_while0b_v11 : Ref sig .tc := ⟨.hbm, 50, rfl⟩
abbrev main_while0b_cst_19 : Ref sig .tc := ⟨.hbm, 51, rfl⟩
abbrev main_while0b_v12 : Ref sig .tc := ⟨.hbm, 52, rfl⟩
abbrev main_while0b_v13 : Ref sig .tc := ⟨.hbm, 53, rfl⟩
abbrev main_while0b_cst_20 : Ref sig .tc := ⟨.hbm, 54, rfl⟩
abbrev main_while0b_v14 : Ref sig .tc := ⟨.hbm, 55, rfl⟩
abbrev main_while0b_v15 : Ref sig .tc := ⟨.hbm, 56, rfl⟩
abbrev main_while0b_v16 : Ref sig .tc := ⟨.hbm, 57, rfl⟩
abbrev main_while0b_v17 : Ref sig .tc := ⟨.hbm, 58, rfl⟩
abbrev main_while0b_v18 : Ref sig .tc := ⟨.hbm, 59, rfl⟩
abbrev main_while0b_cst_21 : Ref sig .tc := ⟨.hbm, 60, rfl⟩
abbrev main_while0b_v19 : Ref sig .tc := ⟨.hbm, 61, rfl⟩
abbrev main_while0b_v20 : Ref sig .tc := ⟨.hbm, 62, rfl⟩
abbrev main_while0b_cst_22 : Ref sig .tc := ⟨.hbm, 63, rfl⟩
abbrev main_while0b_v21 : Ref sig .tc := ⟨.hbm, 64, rfl⟩
abbrev main_while0b_v22 : Ref sig .tc := ⟨.hbm, 65, rfl⟩
abbrev main_while0b_v23 : Ref sig .tc := ⟨.hbm, 66, rfl⟩
abbrev main_while0b_v24 : Ref sig .tc := ⟨.hbm, 67, rfl⟩
abbrev main_while0b_v25 : Ref sig .tc := ⟨.hbm, 68, rfl⟩
abbrev main_while0b_call4_cst : Ref sig .tc := ⟨.hbm, 69, rfl⟩
abbrev main_while0b_call4_v0 : Ref sig .tc := ⟨.hbm, 70, rfl⟩
abbrev main_while0b_v26 : Ref sig .tc := ⟨.hbm, 71, rfl⟩
abbrev main_while0b_v27 : Ref sig .tc := ⟨.hbm, 72, rfl⟩
abbrev main_while0b_v28 : Ref sig .tc := ⟨.hbm, 73, rfl⟩
abbrev main_while0b_call5_cst : Ref sig .tc := ⟨.hbm, 74, rfl⟩
abbrev main_while0b_call5_v0 : Ref sig .tc := ⟨.hbm, 75, rfl⟩
abbrev main_while0b_v29 : Ref sig .tc := ⟨.hbm, 76, rfl⟩
abbrev main_while0b_v30 : Ref sig .tc := ⟨.hbm, 77, rfl⟩
abbrev main_while0b_v31 : Ref sig .tc := ⟨.hbm, 78, rfl⟩
abbrev main_while0b_v32 : Ref sig .tc := ⟨.hbm, 79, rfl⟩
abbrev main_while0b_v33 : Ref sig .tc := ⟨.hbm, 80, rfl⟩
abbrev main_while0b_v34 : Ref sig .tc := ⟨.hbm, 81, rfl⟩
abbrev main_while0b_call6_cst : Ref sig .tc := ⟨.hbm, 82, rfl⟩
abbrev main_while0b_call6_v0 : Ref sig .tc := ⟨.hbm, 83, rfl⟩
abbrev main_while0b_v35 : Ref sig .tc := ⟨.hbm, 84, rfl⟩
abbrev main_while0b_v36 : Ref sig .tc := ⟨.hbm, 85, rfl⟩
abbrev main_while0b_v37 : Ref sig .tc := ⟨.hbm, 86, rfl⟩
abbrev main_while0b_call7_cst : Ref sig .tc := ⟨.hbm, 87, rfl⟩
abbrev main_while0b_call7_v0 : Ref sig .tc := ⟨.hbm, 88, rfl⟩
abbrev main_while0b_v38 : Ref sig .tc := ⟨.hbm, 89, rfl⟩
abbrev main_while0b_v39 : Ref sig .tc := ⟨.hbm, 90, rfl⟩
abbrev main_while0b_call8_v0 : Ref sig .tc := ⟨.hbm, 91, rfl⟩
abbrev main_while0b_call8_c : Ref sig .tc := ⟨.hbm, 92, rfl⟩
abbrev main_while0b_v40 : Ref sig .tc := ⟨.hbm, 93, rfl⟩
abbrev main_while0b_c_23 : Ref sig .tc := ⟨.hbm, 94, rfl⟩
abbrev main_while0b_v41 : Ref sig .tc := ⟨.hbm, 95, rfl⟩
abbrev main_v7 : Ref sig .tc := ⟨.hbm, 96, rfl⟩

abbrev nD : Nat := 1
abbrev τ : Topo := Topo.v7x

variable {F : FTy → Type} [FloatOps F]

abbrev main_while0_count : Scf.Loop 32 := ⟨0#32, 8192#32, 1#32⟩
-- ==== Proof.Loop.lean ====
module

public import proofs.«01_k».proof.Proof.Gen.KernelIdeal.Loops
public import Idealize.ShloMosaic.Lib.ValueIdxCore
public import Idealize.ShloMosaic.Lib.WritesUnit

@[expose] public section

set_option maxRecDepth 16384

noncomputable section

namespace Cert.KernelIdeal.GcnLoop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- One row of the buffer `RN` (`r @ Wn1 + bn1` for every node), as trip `k` loads it: row `8190 - k`. -/
def nodeRow (RN : S8192x256.Idx → Elt F .f32) (k : Fin k0_t1_loop.trips) : Vec F S1x256 .f32 := fun x =>
  RN ((Rect.unit (s := S8192x256) (k0_off1 k) S1x256.size (k0_off1_inb k)).toLoadRect.idx x)

/-- The running sum after trip `k` from the one before it; past the last trip the same. -/
@[irreducible] def carryStep (v35 : Vec F S128x256 .f32) (v36 : Vec F S256x128 .f32) (v38 : Vec F S128x256 .f32) (v39 : Vec F S256x128 .f32)
    (RN : S8192x256.Idx → Elt F .f32) (k : ℕ) (acc : FVec F S128x1 .f32) : FVec F S128x1 .f32 :=
  if h : k < k0_t1_loop.trips then k0_pay11 v35 v36 v38 v39 acc (nodeRow RN ⟨k, h⟩) else acc

/-- The running sum (a 128 x 1 column) before trip `k`, started at `init`. -/
def carry (v35 : Vec F S128x256 .f32) (v36 : Vec F S256x128 .f32) (v38 : Vec F S128x256 .f32) (v39 : Vec F S256x128 .f32)
    (RN : S8192x256.Idx → Elt F .f32) (init : FVec F S128x1 .f32) : ℕ → FVec F S128x1 .f32
  | 0 => init
  | k + 1 => carryStep v35 v36 v38 v39 RN k (carry v35 v36 v38 v39 RN init k)

/-- The rows stored by the trips up to `k`, from those stored before it: trip `k`'s row in front. -/
@[irreducible] def rowsStep (v35 : Vec F S128x256 .f32) (cr : ℕ → FVec F S128x1 .f32) (k : ℕ)
    (rows : List (View.Piece (Elt F) S8192x256 .f32)) : List (View.Piece (Elt F) S8192x256 .f32) :=
  if h : k < k0_t1_loop.trips then
    ⟨Rect.unit (s := S8192x256) (k0_off1 ⟨k, h⟩) S1x256.size (k0_off1_inb ⟨k, h⟩), k0_pay10 v35 (cr k)⟩ :: rows
  else rows

/-- The rows stored into the third scratch by the trips before `k`, the last first. -/
def rowsBefore (v35 : Vec F S128x256 .f32) (cr : ℕ → FVec F S128x1 .f32) : ℕ → List (View.Piece (Elt F) S8192x256 .f32)
  | 0 => []
  | k + 1 => rowsStep v35 cr k (rowsBefore v35 cr k)

/-- `carry` at the next trip. -/
theorem carry_succ (v35 : Vec F S128x256 .f32) (v36 : Vec F S256x128 .f32) (v38 : Vec F S128x256 .f32) (v39 : Vec F S256x128 .f32)
    (RN : S8192x256.Idx → Elt F .f32) (init : FVec F S128x1 .f32) (k : Fin k0_t1_loop.trips) :
    carry v35 v36 v38 v39 RN init (k.val + 1)
      = k0_pay11 v35 v36 v38 v39 (carry v35 v36 v38 v39 RN init k.val) (nodeRow RN k) := by
  rw [carry.eq_2]; unfold carryStep; exact dif_pos k.isLt

/-- `rowsBefore` at the next trip: one more row in front. -/
theorem rowsBefore_succ (v35 : Vec F S128x256 .f32) (cr : ℕ → FVec F S128x1 .f32) (k : Fin k0_t1_loop.trips) :
    rowsBefore v35 cr (k.val + 1)
      = (⟨Rect.unit (s := S8192x256) (k0_off1 k) S1x256.size (k0_off1_inb k), k0_pay10 v35 (cr k.val)⟩ : View.Piece (Elt F) S8192x256 .f32)
        :: rowsBefore v35 cr k.val := by
  rw [rowsBefore.eq_2]; unfold rowsStep; exact dif_pos k.isLt

set_option warn.classDefReducibility false in
/-- The kernel's counted loop by its invariant: before trip `k` the second scratch is as it was, the third holds the rows of the
    trips before written over what it held, and the carried column is `carry`. -/
@[sl_loop] def loopInv (𝒱 : Variants) (c : Dev nD) (bd : Option 𝒱.V) (E : Set ℕ) (arg0 : Memref sig .tc .vmem S8192x256 .f32) (harg0 : arg0.IsWhole) (arg1 : Memref sig .tc .vmem S256x256 .f32) (harg1 : arg1.IsWhole) (arg2 : Memref sig .tc .vmem S1x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x256 .f32) (harg9 : arg9.IsWhole) (arg10 : Memref sig .tc .vmem S1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S8192x128 .f32) (harg13 : arg13.IsWhole) (arg14 : Memref sig .tc .vmem S8192x128 .f32) (harg14 : arg14.IsWhole) (arg15 : Memref sig .tc .vmem S8192x256 .f32) (harg15 : arg15.IsWhole) (arg16 : Memref sig .tc .vmem S8192x256 .f32) (harg16 : arg16.IsWhole) (v31 : FVec F S8192x256 .f32) (v35 : Vec F S128x256 .f32) (v36 : Vec F S256x128 .f32) (v38 : Vec F S128x256 .f32) (v39 : Vec F S256x128 .f32)
    (X_arg15 : BufTy.Contents (Elt F) arg15.view.ty) (G_arg16 : BufTy.Contents (Elt F) arg16.view.ty) (init : FVec F S128x1 .f32) :
    LoopInvTy_k0_t1 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v31 v35 v36 v38 v39 init where
  inv k acc := iprop((arg15.view.loc (c : Thread nD τ) ↦[arg15.view.set]{fullShare} X_arg15)
    ∗ (∃ f, (arg16.view.loc (c : Thread nD τ) ↦[arg16.view.set]{fullShare} f)
        ∗ ⌜f = arg16.view.writes (Elt F) G_arg16 (rowsBefore v35 (carry v35 v36 v38 v39 (arg15.view.read (Elt F) X_arg15) init) k)⌝)
    ∗ ⌜acc = carry v35 v36 v38 v39 (arg15.view.read (Elt F) X_arg15) init k⌝)
  step k acc := by
    have hk : k.val < 8191 := Nat.lt_of_lt_of_le k.isLt k0_t1_abs.2.1
    iintro ⟨HR_arg15, ⟨%f_arg16, HW_arg16, %h_arg16⟩, %h_acc⟩
    subst h_acc
    subst h_arg16
    unfold k0_t1_body
    sl_exec
    sl_step
    isplitl [HR_arg15]; · iexact HR_arg15
    isplitl [HW_arg16]
    · iexists _; isplitl [HW_arg16]; · iexact HW_arg16
      ipureintro; rw [rowsBefore_succ]
    ipureintro; rw [carry_succ]; rfl

end Cert.KernelIdeal.GcnLoop

end
-- ==== Proof.Rows.lean ====
module

public import proofs.«01_k».proof.Proof.Loop
public import Idealize.ShloMosaic.Lib.VecWindow
public import Idealize.ShloMosaic.Lib.WholeRead

@[expose] public section

set_option maxRecDepth 16384

noncomputable section

namespace Cert.KernelIdeal.GcnRows

open Idealize.ShloMosaic Idealize.ShloMosaic.TcCoe
open Idealize.ShloMosaic.ValueIdx
open Cert.KernelIdeal.Gen Cert.KernelIdeal.GcnLoop

variable {F : FTy → Type} [FloatOps F]

/-- The loop runs 8191 times. -/
theorem trips_eq : k0_t1_loop.trips = 8191 := by decide

/-- A load of a whole buffer known to hold `X` gives `X`. -/
theorem load_whole {sp : Space} {s : Shape} (M : Memref sig .tc sp s .f32) (hM : M.IsWhole) (X : Vec F s .f32) {off : Fin s.rank → ℕ}
    (inb : ∀ a, off a + s.size a ≤ s.size a) :
    View.readAt (Elt F) M.view (Rect.unit off s.size inb).toLoadRect (hM.unread X) = X := by
  rw [View.readAt_full, hM.read_unread]

/-- The third scratch once the last row is zeroed: row `8190 - k` from trip `k`, the last row zero. -/
def hidden (v35 : Vec F S128x256 .f32) (cr : ℕ → FVec F S128x1 .f32) : Vec F S8192x256 .f32 := fun y =>
  if (y 0).val = 8191 then k0_pay7 (F := F) (ix2 (0 : Fin 1) (y 1)) else k0_pay10 v35 (cr (8190 - (y 0).val)) (ix2 (0 : Fin 1) (y 1))

/-- After `k` trips every row from `8191 - k` on is final. -/
theorem read_rows (v : View sig .tc .vmem S8192x256 .f32) (f : v.ty.Contents (Elt F)) (v35 : Vec F S128x256 .f32)
    (cr : ℕ → FVec F S128x1 .f32) (k : ℕ) (hk : k ≤ 8191) (y : S8192x256.Idx) (hy : 8191 - k ≤ (y 0).val) :
    v.read (Elt F) (v.writes (Elt F) f (rowsBefore v35 cr k
        ++ [⟨Rect.unit (s := S8192x256) ![8191, 0] S1x256.size inb_S8192x256_S1x256_8191_0, k0_pay7⟩])) y
      = hidden v35 cr y := by
  have hlt : (y 0).val < 8192 := (y 0).isLt
  induction k with
  | zero =>
    have h8 : (y 0).val = 8191 := by omega
    rw [rowsBefore, List.nil_append, hidden, if_pos h8]
    exact View.read_writes_cons_rows_of_mem v f inb_S8192x256_S1x256_8191_0 _ _ y (ix2 (0 : Fin 1) (y 1)) rfl h8 rfl
  | succ k ih =>
    have hkt : k < k0_t1_loop.trips := by rw [trips_eq]; omega
    rw [rowsBefore_succ v35 cr ⟨k, hkt⟩, List.cons_append]
    by_cases h : (y 0).val = 8190 - k
    · rw [hidden, if_neg (by omega), show 8190 - (y 0).val = k by omega]
      exact View.read_writes_cons_rows_of_mem v f (k0_off1_inb ⟨k, hkt⟩) _ _ y (ix2 (0 : Fin 1) (y 1)) (k0_off1_eq ⟨k, hkt⟩) h rfl
    · rw [View.read_writes_cons_rows_of_not_mem v f (k0_off1_inb ⟨k, hkt⟩) _ _ y (k0_off1_eq ⟨k, hkt⟩) (W := 1) rfl
        (Or.inr (by show 8190 - k + 1 ≤ (y 0).val; omega))]
      exact ih (by omega) (by omega)

/-- A load of the whole third scratch after the loop. -/
theorem load_rows (v : View sig .tc .vmem S8192x256 .f32) (f : v.ty.Contents (Elt F)) (v35 : Vec F S128x256 .f32)
    (cr : ℕ → FVec F S128x1 .f32) :
    v.readAt (Elt F) (Rect.unit (s := S8192x256) ![0, 0] S8192x256.size inb_S8192x256_S8192x256_0_0).toLoadRect
      (v.writes (Elt F) f (rowsBefore v35 cr (Scf.trips k0_t1_loop.lb k0_t1_loop.ub k0_t1_loop.st)
        ++ [⟨Rect.unit (s := S8192x256) ![8191, 0] S1x256.size inb_S8192x256_S1x256_8191_0, k0_pay7⟩]))
      = hidden v35 cr := by
  rw [View.readAt_full, show Scf.trips k0_t1_loop.lb k0_t1_loop.ub k0_t1_loop.st = 8191 from trips_eq]
  funext y
  exact read_rows v f v35 cr 8191 le_rfl y (by omega)

/-- The last row of the node part, as the kernel loads it before the loop. -/
def lastRow (RN : S8192x256.Idx → Elt F .f32) : Vec F S1x256 .f32 := fun x =>
  RN ((Rect.unit (s := S8192x256) ![8191, 0] S1x256.size inb_S8192x256_S1x256_8191_0).toLoadRect.idx x)

/-- The load of the last row from the second scratch once it holds `w` everywhere. -/
theorem load_last (v : View sig .tc .vmem S8192x256 .f32) (w : Vec F S8192x256 .f32) :
    v.readCov (Val := Elt F) [⟨Rect.unit (s := S8192x256) ![0, 0] S8192x256.size inb_S8192x256_S8192x256_0_0, w⟩]
      (Rect.unit (s := S8192x256) ![8191, 0] S1x256.size inb_S8192x256_S1x256_8191_0).toLoadRect = lastRow w := by
  show (fun x => v.read (Elt F) (v.writes (Elt F) v.junk _) _) = _
  rw [View.read_writes_full]; rfl

end Cert.KernelIdeal.GcnRows

end
-- ==== Proof.Body.lean ====
module

public import proofs.«01_k».proof.Proof.Rows
public import proofs.«01_k».proof.Proof.Gen.KernelIdeal.Frame

@[expose] public section

set_option maxRecDepth 16384

noncomputable section

namespace Cert.KernelIdeal.GcnBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal.Gen Cert.KernelIdeal.GcnLoop Cert.KernelIdeal.GcnRows

variable {F : FTy → Type} [FloatOps F]

local notation "𝕄" => MT nD τ sig Unit (Elt F) ℕ (UR sig nD τ) ℕ

/-- The node features every later stage reads: both refining layers applied to the whole input. -/
def feats (x0 : Vec F S8192x256 .f32) (x1 : Vec F S256x256 .f32) (x2 : Vec F S1x256 .f32) (x3 : Vec F S256x128 .f32)
    (x4 : Vec F S1x128 .f32) : FVec F S8192x128 .f32 := k0_pay3 x0 x1 x2 x3 x4

/-- The node part of the first neighbour layer, for every node. -/
def nodes (x0 : Vec F S8192x256 .f32) (x1 : Vec F S256x256 .f32) (x2 : Vec F S1x256 .f32) (x3 : Vec F S256x128 .f32)
    (x4 : Vec F S1x128 .f32) (x5 : Vec F S128x256 .f32) (x6 : Vec F S1x256 .f32) : FVec F S8192x256 .f32 :=
  k0_pay5 (k0_pay4 x0 x1 x2 x3 x4 x5 x6)

/-- The running sum before trip `k`, from the whole node part. -/
def run (x5 : Vec F S128x256 .f32) (x7 : Vec F S256x128 .f32) (x9 : Vec F S128x256 .f32) (x11 : Vec F S256x128 .f32)
    (RN : S8192x256.Idx → Elt F .f32) : ℕ → FVec F S128x1 .f32 :=
  carry x9 x11 x5 x7 RN (k0_pay8 x7 (lastRow RN))

/-- The kernel's whole output from its inputs. -/
def outBlock (x0 : Vec F S8192x256 .f32) (x1 : Vec F S256x256 .f32) (x2 : Vec F S1x256 .f32) (x3 : Vec F S256x128 .f32)
    (x4 : Vec F S1x128 .f32) (x5 : Vec F S128x256 .f32) (x6 : Vec F S1x256 .f32) (x7 : Vec F S256x128 .f32)
    (x9 : Vec F S128x256 .f32) (x11 : Vec F S256x128 .f32) : Vec F S8192x128 .f32 :=
  k0_pay1 (k0_pay12 (hidden x9 (run x5 x7 x9 x11 (nodes x0 x1 x2 x3 x4 x5 x6))) x11) (feats x0 x1 x2 x3 x4)

-- (the run's proof term is large: checking it takes more than the default budget)
set_option maxHeartbeats 2000000 in
/-- The body on whole staging buffers: the thirteen inputs come back as they were, the output holds `outBlock` of them, the
    scratches hold something. -/
theorem body_run (c : Dev nD) (arg0 : Memref sig .tc .vmem S8192x256 .f32) (harg0 : arg0.IsWhole) (arg1 : Memref sig .tc .vmem S256x256 .f32) (harg1 : arg1.IsWhole) (arg2 : Memref sig .tc .vmem S1x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x256 .f32) (harg9 : arg9.IsWhole) (arg10 : Memref sig .tc .vmem S1x256 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S8192x128 .f32) (harg13 : arg13.IsWhole) (arg14 : Memref sig .tc .vmem S8192x128 .f32) (harg14 : arg14.IsWhole) (arg15 : Memref sig .tc .vmem S8192x256 .f32) (harg15 : arg15.IsWhole) (arg16 : Memref sig .tc .vmem S8192x256 .f32) (harg16 : arg16.IsWhole)
    (x0 : Vec F S8192x256 .f32) (x1 : Vec F S256x256 .f32) (x2 : Vec F S1x256 .f32) (x3 : Vec F S256x128 .f32) (x4 : Vec F S1x128 .f32) (x5 : Vec F S128x256 .f32) (x6 : Vec F S1x256 .f32) (x7 : Vec F S256x128 .f32) (x8 : Vec F S1x128 .f32) (x9 : Vec F S128x256 .f32) (x10 : Vec F S1x256 .f32) (x11 : Vec F S256x128 .f32) (x12 : Vec F S1x128 .f32) :
    ∀ (E : Set ℕ) (K : PUnit → sProp 𝕄),
      iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
          ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (outBlock x0 x1 x2 x3 x4 x5 x6 x7 x9 x11) ∗ (∃ d, owns (c : Thread nD τ) arg14 fullShare d) ∗ (∃ d, owns (c : Thread nD τ) arg15 fullShare d) ∗ (∃ d, owns (c : Thread nD τ) arg16 fullShare d)) -∗ K ⟨⟩))
        ⊢ wp frame (wpE (defs₀ (F := F)) Variants.none c none) E (cc0__gcn_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  simp only [cc0__gcn_kernel_eq_skeleton]; unfold cc0__gcn_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%ds0, %fs0, -, HS0⟩, ⟨%ds1, %fs1, -, HS1⟩, ⟨%ds2, %fs2, -, HS2⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro
    unfold body_run.sl.r_1 body_run.sl.v64 body_run.sl.v59 body_run.sl.HS0_1 body_run.sl.HS1_1 body_run.sl.v41
    rw [View.read_writes_full, View.readCov_full, load_rows]
    unfold body_run.sl.HS1_1 body_run.sl.r
    rw [load_last, View.read_writes_full]
    have e0 := load_whole arg0 harg0 x0 inb_S8192x256_S8192x256_0_0
    have e1 := load_whole arg1 harg1 x1 inb_S256x256_S256x256_0_0
    have e2 := load_whole arg2 harg2 x2 inb_S1x256_S1x256_0_0
    have e3 := load_whole arg3 harg3 x3 inb_S256x128_S256x128_0_0
    have e4 := load_whole arg4 harg4 x4 inb_S1x128_S1x128_0_0
    have e5 := load_whole arg5 harg5 x5 inb_S128x256_S128x256_0_0
    have e6 := load_whole arg6 harg6 x6 inb_S1x256_S1x256_0_0
    have e7 := load_whole arg7 harg7 x7 inb_S256x128_S256x128_0_0
    have e9 := load_whole arg9 harg9 x9 inb_S128x256_S128x256_0_0
    have e11 := load_whole arg11 harg11 x11 inb_S256x128_S256x128_0_0
    simp only [e0, e1, e2, e3, e4, e5, e6, e7, e9, e11]
    rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.KernelIdeal.GcnBody

end
-- ==== Proof.Launch.lean ====
module

public import proofs.«01_k».proof.Proof.Body
public import Idealize.ShloMosaic.Lib.Pipeline.Value
public import Idealize.ShloMosaic.Lib.StableHlo.Run
public import Idealize.ShloMosaic.Lib.Claim

@[expose] public section

set_option maxRecDepth 16384

noncomputable section

namespace Cert.KernelIdeal.GcnLaunch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.KernelIdeal.GcnBody

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch holds: the arrays as it finds them; after the body the inputs' blocks as they were, the output at `outBlock`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlock (iblk m c 0 t) (iblk m c 1 t) (iblk m c 2 t) (iblk m c 3 t) (iblk m c 4 t) (iblk m c 5 t) (iblk m c 6 t) (iblk m c 7 t) (iblk m c 9 t) (iblk m c 11 t)
  Φ _ := Pipeline.ΦA spec0 c
  q _ := fullShare
  owed _ := 0

theorem A_eq (c : Dev nD) (w : Fin cfg0.W) : (dats m 0 c).A w = V m c (Pipeline.arrRef spec0 w) := by
  dsimp only [dats]

/-! What the body leaves in each window. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = outBlock (iblk m c 0 t) (iblk m c 1 t) (iblk m c 2 t) (iblk m c 3 t) (iblk m c 4 t) (iblk m c 5 t) (iblk m c 6 t) (iblk m c 7 t) (iblk m c 9 t) (iblk m c 11 t) := by dsimp only [dats]

/-! What each input window holds when the body runs: its block. -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-- The launch's invariant: the three scratches at some contents, and the generator register. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body starts from, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1600000 in
/-- The body takes the one to the other. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  rw [show (dats m 0 c).Φ t.castSucc = Pipeline.ΦA spec0 c from rfl, inv_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_run c _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [HS0]; · iexact HS0
  isplitl [HS1]; · iexact HS1
  isplitl [HS2]; · iexact HS2
  iintro ⟨H0, H1, H2, H3, H4, H5, H6, H7, H8, H9, H10, H11, H12, H13, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

set_option backward.isDefEq.respectTransparency.types false in
/-- Every execution ends, with the arrays as `dats` says and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem off_zero {n : ℕ} (s : Fin n → ℕ) : (fun a => 0 * s a) = fun _ => 0 := funext fun _ => Nat.zero_mul _

/-! Each input's block is its whole array. -/

theorem block_0 (c : Dev nD) (t : Fin cfg0.N) : iblk m c 0 t = V m c main_arg0 :=
  Memref.read_access_unit_zero (Elt F) main_arg0 (off_zero main_arg0.ty.shape.size) _ _
theorem block_1 (c : Dev nD) (t : Fin cfg0.N) : iblk m c 1 t = V m c main_arg2 :=
  Memref.read_access_unit_zero (Elt F) main_arg2 (off_zero main_arg2.ty.shape.size) _ _
theorem block_2 (c : Dev nD) (t : Fin cfg0.N) : iblk m c 2 t = V m c main_v0 :=
  Memref.read_access_unit_zero (Elt F) main_v0 (off_zero main_v0.ty.shape.size) _ _
theorem block_3 (c : Dev nD) (t : Fin cfg0.N) : iblk m c 3 t = V m c main_arg4 :=
  Memref.read_access_unit_zero (Elt F) main_arg4 (off_zero main_arg4.ty.shape.size) _ _
theorem block_4 (c : Dev nD) (t : Fin cfg0.N) : iblk m c 4 t = V m c main_v1 :=
  Memref.read_access_unit_zero (Elt F) main_v1 (off_zero main_v1.ty.shape.size) _ _
theorem block_5 (c : Dev nD) (t : Fin cfg0.N) : iblk m c 5 t = V m c main_arg6 :=
  Memref.read_access_unit_zero (Elt F) main_arg6 (off_zero main_arg6.ty.shape.size) _ _
theorem block_6 (c : Dev nD) (t : Fin cfg0.N) : iblk m c 6 t = V m c main_v2 :=
  Memref.read_access_unit_zero (Elt F) main_v2 (off_zero main_v2.ty.shape.size) _ _
theorem block_7 (c : Dev nD) (t : Fin cfg0.N) : iblk m c 7 t = V m c main_arg8 :=
  Memref.read_access_unit_zero (Elt F) main_arg8 (off_zero main_arg8.ty.shape.size) _ _
theorem block_8 (c : Dev nD) (t : Fin cfg0.N) : iblk m c 8 t = V m c main_v3 :=
  Memref.read_access_unit_zero (Elt F) main_v3 (off_zero main_v3.ty.shape.size) _ _
theorem block_9 (c : Dev nD) (t : Fin cfg0.N) : iblk m c 9 t = V m c main_arg10 :=
  Memref.read_access_unit_zero (Elt F) main_arg10 (off_zero main_arg10.ty.shape.size) _ _
theorem block_10 (c : Dev nD) (t : Fin cfg0.N) : iblk m c 10 t = V m c main_v4 :=
  Memref.read_access_unit_zero (Elt F) main_v4 (off_zero main_v4.ty.shape.size) _ _
theorem block_11 (c : Dev nD) (t : Fin cfg0.N) : iblk m c 11 t = V m c main_arg12 :=
  Memref.read_access_unit_zero (Elt F) main_arg12 (off_zero main_arg12.ty.shape.size) _ _
theorem block_12 (c : Dev nD) (t : Fin cfg0.N) : iblk m c 12 t = V m c main_v5 :=
  Memref.read_access_unit_zero (Elt F) main_v5 (off_zero main_v5.ty.shape.size) _ _

/-- What the result array ends holding. -/
def result (c : Dev nD) : Buf (Elt F) ((c : Thread nD τ).loc main_v6) := outBlock (V m c main_arg0) (V m c main_arg2) (V m c main_v0) (V m c main_arg4) (V m c main_v1) (V m c main_arg6) (V m c main_v2) (V m c main_arg8) (V m c main_arg10) (V m c main_arg12)

/-- The one write-back writes `result`. -/
theorem flushed_eq (c : Dev nD) (t : Fin cfg0.N) :
    (dats m 0 c).flushed 13 t = ((cfg0.win 13).blk t).view.read (Elt F) (result m c) := by
  show (cfg0.win 13).cut (grid0.coords t) ((dats m 0 c).after 13 t) = _
  rw [after_13, block_0, block_1, block_2, block_3, block_4, block_5, block_6, block_7, block_9, block_11]
  exact (Memref.read_access_unit_zero (Elt F) main_v6 (off_zero main_v6.ty.shape.size) _ (result m c)).symm

theorem final_v6 (c : Dev nD) : (dats m 0 c).arrAt 13 cfg0.N = result m c :=
  (dats m 0 c).arrAt_eq_of_cover 13 (result m c) (fun t _ => flushed_eq m c t) fun i =>
    ⟨t0_0, flush0_13 _, by
      show i ∈ ((View.whole main_v6).slice (win0_13.rect t0_0)).set
      rw [View.set_slice_whole, Rect.mem_set_unit]
      intro a
      exact ⟨by show 0 * _ ≤ _; rw [Nat.zero_mul]; exact Nat.zero_le _, by show _ < 0 * _ + _; rw [Nat.zero_mul, Nat.zero_add]; exact (i a).isLt⟩⟩

/-- The arguments end as they were, and every counter is zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_with_sems (frame_of m ρ (dats m) (A_eq m)) (run_main m ρ)

/-- Bias `main_arg3` as the kernel's launch finds it: one row. -/
theorem V_main_v0 (c : Dev nD) : V m c main_v0 = shapeCast S1x256 (m ((c : Thread nD τ).loc main_arg3)) shapeCasts_S256_S1x256 := by
  show StableHlo.after hostOps0 (fun b => m (c, b)) main_v0 = _
  unfold hostOps0
  after_results_simp
  rfl
/-- Bias `main_arg5` as the kernel's launch finds it: one row. -/
theorem V_main_v1 (c : Dev nD) : V m c main_v1 = shapeCast S1x128 (m ((c : Thread nD τ).loc main_arg5)) shapeCasts_S128_S1x128 := by
  show StableHlo.after hostOps0 (fun b => m (c, b)) main_v1 = _
  unfold hostOps0
  after_results_simp
  rfl
/-- Bias `main_arg7` as the kernel's launch finds it: one row. -/
theorem V_main_v2 (c : Dev nD) : V m c main_v2 = shapeCast S1x256 (m ((c : Thread nD τ).loc main_arg7)) shapeCasts_S256_S1x256 := by
  show StableHlo.after hostOps0 (fun b => m (c, b)) main_v2 = _
  unfold hostOps0
  after_results_simp
  rfl

/-- The result array from the arguments as launched. -/
theorem result_eq (c : Dev nD) : result m c = outBlock (m ((c : Thread nD τ).loc main_arg0)) (m ((c : Thread nD τ).loc main_arg2)) (shapeCast S1x256 (m ((c : Thread nD τ).loc main_arg3)) shapeCasts_S256_S1x256) (m ((c : Thread nD τ).loc main_arg4)) (shapeCast S1x128 (m ((c : Thread nD τ).loc main_arg5)) shapeCasts_S128_S1x128) (m ((c : Thread nD τ).loc main_arg6)) (shapeCast S1x256 (m ((c : Thread nD τ).loc main_arg7)) shapeCasts_S256_S1x256) (m ((c : Thread nD τ).loc main_arg8)) (m ((c : Thread nD τ).loc main_arg10)) (m ((c : Thread nD τ).loc main_arg12)) := by
  unfold result
  rw [V_main_arg0, V_main_arg2, V_main_v0, V_main_arg4, V_main_v1, V_main_arg6, V_main_v2, V_main_arg8, V_main_arg10, V_main_arg12]

/-- The result array ends at `result`, the arguments as they were. -/
theorem value : θ_run defs (onTc (τ := τ) (main (F := F))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  have h := θ_run_and (quiescent m ρ) ((θ_run defs _ _).mono
    (fun r (h : Pipeline.FramePost cfgs (dats m) 0 (V m) r ∧ _) (c : Dev nD) => ((h.1 c).1 13).trans (final_v6 m c)) (run_main m ρ))
  exact (θ_run defs _ _).mono (fun _ h c => ⟨h.2 c, h.1.1 c⟩) h

end Cert.KernelIdeal.GcnLaunch

end
-- ==== Proof.KernelFrame.lean ====
module

public import proofs.«01_k».proof.Defs
public import proofs.«01_k».proof.Proof.Gen.Kernel
public import proofs.«01_k».proof.Proof.Launch

@[expose] public section

set_option maxRecDepth 16384

noncomputable section

namespace Cert.Kernel.GcnFrame

open Idealize.ShloMosaic Idealize.SL.Sem

attribute [local instance] Cert.Kernel.Gen.facts Cert.KernelIdeal.Gen.facts

set_option smartUnfolding false in
/-- The kernel over the floats terminates, leaves its arguments as they were and every semaphore at zero: its program is the one whose run is
    shown at any float model. -/
theorem quiescent : Cert.quiescent_Kernel := fun m g _ => Cert.KernelIdeal.GcnLaunch.quiescent (F := Bits) m g

end Cert.Kernel.GcnFrame

end
-- ==== Proof.Spec.lean ====
module

public import Idealize.ShloMosaic.Lib.Pointwise
public import Mathlib.Algebra.BigOperators.Fin

@[expose] public section

noncomputable section

namespace Cert.Gcn

open Idealize.ShloMosaic
open scoped BigOperators

/-- A row times a matrix, as a sum over the matrix's rows. -/
def lin {n m : ℕ} (W : Fin n → Fin m → EReal) (x : Fin n → EReal) (j : Fin m) : EReal := ∑ k, x k * W k j

/-- The rectifier. -/
def relu (x : EReal) : EReal := max x 0

/-- The leaky rectifier, its slope the constant that both programs carry. -/
def leaky (x : EReal) : EReal := if 0 < x then x else Ideal.ofBits .f32 1008981770#32 * x

/-- The inputs that the result depends on once the three biases at the ends of the two networks are zero. -/
structure Net where
  /-- one row of 256 features per node -/
  X : Fin 8192 → Fin 256 → EReal
  /-- the refining network -/
  W1 : Fin 256 → Fin 256 → EReal
  b1 : Fin 256 → EReal
  W2 : Fin 256 → Fin 128 → EReal
  b2 : Fin 128 → EReal
  /-- the neighbour network -/
  Wn1 : Fin 128 → Fin 256 → EReal
  bn1 : Fin 256 → EReal
  Wn2 : Fin 256 → Fin 128 → EReal
  /-- the summary network -/
  Ws1 : Fin 128 → Fin 256 → EReal
  Ws2 : Fin 256 → Fin 128 → EReal

namespace Net

variable (N : Net)

/-- The refined features of node `i`. -/
def feat (i : Fin 8192) (j : Fin 128) : EReal :=
  leaky (lin N.W2 (fun l => leaky (lin N.W1 (N.X i) l + N.b1 l)) j + N.b2 j)

/-- What the summary network makes of the running sum. -/
def summary (S : Fin 128 → EReal) (j : Fin 128) : EReal := relu (lin N.Ws2 (fun l => relu (lin N.Ws1 S l)) j)

/-- What the neighbour network makes of one node's output. -/
def message (o : Fin 128 → EReal) (j : Fin 128) : EReal :=
  relu (lin N.Wn2 (fun l => relu (lin N.Wn1 o l + N.bn1 l)) j)

/-- The node that step `t` handles: the last node first. -/
def node (t : ℕ) : Fin 8192 := ⟨8191 - t, by omega⟩

/-- The inputs read out of the arrays that hold them. -/
def ofArrays (a0 : FVec Ideal ⟨2, ![8192, 256]⟩ .f32) (a2 : FVec Ideal ⟨2, ![256, 256]⟩ .f32) (a3 : FVec Ideal ⟨1, ![256]⟩ .f32)
    (a4 : FVec Ideal ⟨2, ![256, 128]⟩ .f32) (a5 : FVec Ideal ⟨1, ![128]⟩ .f32) (a6 : FVec Ideal ⟨2, ![128, 256]⟩ .f32)
    (a7 : FVec Ideal ⟨1, ![256]⟩ .f32) (a8 : FVec Ideal ⟨2, ![256, 128]⟩ .f32) (a10 : FVec Ideal ⟨2, ![128, 256]⟩ .f32)
    (a12 : FVec Ideal ⟨2, ![256, 128]⟩ .f32) : Net where
  X i k := a0 (ix2 i k)
  W1 i k := a2 (ix2 i k)
  b1 k := a3 (ix1 k)
  W2 i k := a4 (ix2 i k)
  b2 k := a5 (ix1 k)
  Wn1 i k := a6 (ix2 i k)
  bn1 k := a7 (ix1 k)
  Wn2 i k := a8 (ix2 i k)
  Ws1 i k := a10 (ix2 i k)
  Ws2 i k := a12 (ix2 i k)

/-- The output of step `t`, from the running sum before it: the first step reads no summary. -/
def out (t : ℕ) (S : Fin 128 → EReal) (j : Fin 128) : EReal :=
  N.feat (node t) j + (if t = 0 then 0 else N.summary S j)

/-- The running sum before step `t`. -/
def sum : ℕ → Fin 128 → EReal
  | 0 => fun _ => 0
  | t + 1 => fun j => sum t j + N.message (N.out t (sum t)) j

/-- The result: node `i` is handled by step `8191 - i`. -/
def result (i : Fin 8192) (j : Fin 128) : EReal := N.out (8191 - i.val) (N.sum (8191 - i.val)) j

/-- Every entry of the features, of the refining network and of the first neighbour matrix is finite. -/
structure Finite : Prop where
  X : ∀ i k, ∃ r : ℝ, N.X i k = r
  W1 : ∀ i k, ∃ r : ℝ, N.W1 i k = r
  b1 : ∀ i, ∃ r : ℝ, N.b1 i = r
  W2 : ∀ i k, ∃ r : ℝ, N.W2 i k = r
  b2 : ∀ i, ∃ r : ℝ, N.b2 i = r
  Wn1 : ∀ i k, ∃ r : ℝ, N.Wn1 i k = r

end Net

/-- A row times a 256-row matrix, the two halves of the sum added lane by lane. -/
theorem lin_halves {m : ℕ} (W : Fin 256 → Fin m → EReal) (x : Fin 256 → EReal) (j : Fin m) :
    lin W x j = ∑ k : Fin 128, (W ⟨k, by omega⟩ j * x ⟨k, by omega⟩ + W ⟨128 + k, by omega⟩ j * x ⟨128 + k, by omega⟩) := by
  rw [Finset.sum_add_distrib, lin]
  simp only [mul_comm (W _ j)]
  exact Fin.sum_univ_add (a := 128) (b := 128) fun k => x k * W k j

/-- A finite sum of finite products is finite. -/
theorem lin_finite {n m : ℕ} (W : Fin n → Fin m → EReal) (x : Fin n → EReal) (hW : ∀ i k, ∃ r : ℝ, W i k = r)
    (hx : ∀ i, ∃ r : ℝ, x i = r) (j : Fin m) : ∃ r : ℝ, lin W x j = r := by
  choose w hw using hW
  choose y hy using hx
  refine ⟨∑ k, y k * w k j, ?_⟩
  simp only [lin, hw, hy, ← EReal.coe_mul]
  exact (map_sum (⟨⟨Real.toEReal, EReal.coe_zero⟩, EReal.coe_add⟩ : ℝ →+ EReal) _ _).symm

/-- The slope is finite. -/
theorem slope_finite : ∃ r : ℝ, Ideal.ofBits .f32 1008981770#32 = r := by
  have h : ∃ a b c : ℝ, Ideal.ofBits .f32 1008981770#32 = ((a * b * c : ℝ) : EReal) := by
    unfold Ideal.ofBits Ideal.ieee
    exact ⟨_, _, _, rfl⟩
  obtain ⟨a, b, c, h⟩ := h
  exact ⟨_, h⟩

/-- The leaky rectifier keeps finite values finite. -/
theorem leaky_finite (x : EReal) (hx : ∃ r : ℝ, x = r) : ∃ r : ℝ, leaky x = r := by
  obtain ⟨r, rfl⟩ := hx
  obtain ⟨s, hs⟩ := slope_finite
  unfold leaky
  split
  · exact ⟨r, rfl⟩
  · exact ⟨s * r, by rw [hs, EReal.coe_mul]⟩

/-- A sum of two finite values is finite. -/
theorem add_finite (x y : EReal) (hx : ∃ r : ℝ, x = r) (hy : ∃ r : ℝ, y = r) : ∃ r : ℝ, x + y = r := by
  obtain ⟨r, rfl⟩ := hx
  obtain ⟨s, rfl⟩ := hy
  exact ⟨r + s, (EReal.coe_add r s).symm⟩

/-- Finite inputs make finite features. -/
theorem feat_finite (N : Net) (h : N.Finite) (i : Fin 8192) (j : Fin 128) : ∃ r : ℝ, N.feat i j = r :=
  leaky_finite _ (add_finite _ _ (lin_finite _ _ h.W2 (fun l => leaky_finite _ (add_finite _ _ (lin_finite _ _ h.W1 (h.X i) l) (h.b1 l))) j)
    (h.b2 j))

/-- A finite factor distributes over a sum with one finite term. -/
theorem add_mul_finite (r w : ℝ) (a : EReal) : ((r : EReal) + a) * w = r * w + a * w := by
  induction a using EReal.rec with
  | coe a => simp only [← EReal.coe_add, ← EReal.coe_mul, add_mul]
  | top =>
    rcases lt_trichotomy w 0 with hw | hw | hw
    · simp [EReal.coe_add_top, EReal.top_mul_coe_of_neg hw, EReal.add_bot]
    · subst hw; simp
    · simp only [EReal.coe_add_top, EReal.top_mul_coe_of_pos hw, ← EReal.coe_mul]
  | bot =>
    rcases lt_trichotomy w 0 with hw | hw | hw
    · simp only [EReal.add_bot, EReal.bot_mul_coe_of_neg hw, ← EReal.coe_mul, EReal.coe_add_top]
    · subst hw; simp
    · simp [EReal.add_bot, EReal.bot_mul_coe_of_pos hw]

/-- A finite matrix applied to a sum whose first part is finite. -/
theorem lin_add {n m : ℕ} (W : Fin n → Fin m → EReal) (x a : Fin n → EReal) (hW : ∀ i k, ∃ r : ℝ, W i k = r)
    (hx : ∀ i, ∃ r : ℝ, x i = r) (j : Fin m) : lin W (fun k => x k + a k) j = lin W a j + lin W x j := by
  rw [lin, lin, lin, ← Finset.sum_add_distrib]
  refine Finset.sum_congr rfl fun k _ => ?_
  obtain ⟨w, hw⟩ := hW k j
  obtain ⟨r, hr⟩ := hx k
  rw [hw, hr, add_mul_finite, add_comm]

/-- One later step of the running sum, the summary's share of the neighbour layer computed apart from the node's. -/
theorem sum_succ (N : Net) (h : N.Finite) (t : ℕ) (j : Fin 128) :
    N.sum (t + 2) j = N.sum (t + 1) j + relu (lin N.Wn2 (fun l => relu (lin N.Wn1 (N.summary (N.sum (t + 1))) l
      + (lin N.Wn1 (N.feat (Net.node (t + 1))) l + N.bn1 l))) j) := by
  show N.sum (t + 1) j + N.message (N.out (t + 1) (N.sum (t + 1))) j = _
  have hl : ∀ l, lin N.Wn1 (N.out (t + 1) (N.sum (t + 1))) l
      = lin N.Wn1 (N.summary (N.sum (t + 1))) l + lin N.Wn1 (N.feat (Net.node (t + 1))) l := fun l => by
    rw [← lin_add _ _ _ h.Wn1 (feat_finite N h _)]
    congr 1
  simp only [Net.message, hl, add_assoc]

/-- The running sum after the first step. -/
theorem sum_one (N : Net) (j : Fin 128) :
    N.sum 1 j = relu (lin N.Wn2 (fun l => relu (lin N.Wn1 (N.feat (Net.node 0)) l + N.bn1 l)) j) := by
  show 0 + N.message (N.out 0 (N.sum 0)) j = _
  have hl : N.out 0 (N.sum 0) = N.feat (Net.node 0) := by
    funext k
    rw [Net.out, if_pos rfl, add_zero]
  rw [hl, zero_add, Net.message]

end Cert.Gcn

end
-- ==== Proof.KernelMath.lean ====
module

public import proofs.«01_k».proof.Proof.Launch
public import proofs.«01_k».proof.Proof.Spec

@[expose] public section

set_option maxRecDepth 16384

noncomputable section

namespace Cert.KernelIdeal.GcnMath

open Idealize.ShloMosaic
open Cert.Gcn
open Cert.KernelIdeal Cert.KernelIdeal.Gen Cert.KernelIdeal.GcnLoop Cert.KernelIdeal.GcnRows Cert.KernelIdeal.GcnBody

variable (a0 : FVec Ideal S8192x256 .f32) (a2 : FVec Ideal S256x256 .f32) (a3 : FVec Ideal S256 .f32) (a4 : FVec Ideal S256x128 .f32)
  (a5 : FVec Ideal S128 .f32) (a6 : FVec Ideal S128x256 .f32) (a7 : FVec Ideal S256 .f32) (a8 : FVec Ideal S256x128 .f32)
  (a10 : FVec Ideal S128x256 .f32) (a12 : FVec Ideal S256x128 .f32)

/-- The refined features the kernel computes. -/
theorem feats_at (i : Fin 8192) (j : Fin 128) :
    feats (F := Ideal) a0 a2 (shapeCast S1x256 a3 shapeCasts_S256_S1x256) a4 (shapeCast S1x128 a5 shapeCasts_S128_S1x128) (ix2 i j)
      = (Net.ofArrays a0 a2 a3 a4 a5 a6 a7 a8 a10 a12).feat i j := by
  pointwise [feats, k0_pay3, k0_pay2]
  rfl

/-- The node part of the first neighbour layer. -/
theorem nodes_at (i : Fin 8192) (l : Fin 256) :
    nodes (F := Ideal) a0 a2 (shapeCast S1x256 a3 shapeCasts_S256_S1x256) a4 (shapeCast S1x128 a5 shapeCasts_S128_S1x128) a6
        (shapeCast S1x256 a7 shapeCasts_S256_S1x256) (ix2 i l)
      = lin (Net.ofArrays a0 a2 a3 a4 a5 a6 a7 a8 a10 a12).Wn1 ((Net.ofArrays a0 a2 a3 a4 a5 a6 a7 a8 a10 a12).feat i) l + (Net.ofArrays a0 a2 a3 a4 a5 a6 a7 a8 a10 a12).bn1 l := by
  have h : ∀ k, k0_pay2 (F := Ideal) a0 a2 (shapeCast S1x256 a3 shapeCasts_S256_S1x256) a4 (shapeCast S1x128 a5 shapeCasts_S128_S1x128) (ix2 i k)
      = (Net.ofArrays a0 a2 a3 a4 a5 a6 a7 a8 a10 a12).feat i k := fun k => by
    rw [← feats_at]
    pointwise [feats, k0_pay3]
  pointwise [nodes, k0_pay5, k0_pay4]
  simp only [h]
  rfl

/-- The running sum's start, from a row of the node part. -/
theorem init_at (row : Vec Ideal S1x256 .f32) (v : Fin 256 → EReal) (h : ∀ l, row (ix2 0 l) = v l) (j : Fin 128) :
    k0_pay8 (F := Ideal) a8 row (ix2 j 0) = relu (lin (Net.ofArrays a0 a2 a3 a4 a5 a6 a7 a8 a10 a12).Wn2 (fun l => relu (v l)) j) := by
  pointwise [k0_pay8, k0_pay6]
  simp only [h]
  rw [lin_halves]
  rfl

/-- The hidden layer of the summary network, from the running sum. -/
theorem hidden_at (acc : FVec Ideal S128x1 .f32) (S : Fin 128 → EReal) (h : ∀ j, acc (ix2 j 0) = S j) (l : Fin 256) :
    k0_pay10 (F := Ideal) a10 acc (ix2 0 l) = relu (lin (Net.ofArrays a0 a2 a3 a4 a5 a6 a7 a8 a10 a12).Ws1 S l) := by
  pointwise [k0_pay10, k0_pay9]
  simp only [h]
  rfl

/-- One trip of the loop, from the running sum and a row of the node part. -/
theorem step_at (acc : FVec Ideal S128x1 .f32) (S : Fin 128 → EReal) (hS : ∀ j, acc (ix2 j 0) = S j)
    (row : Vec Ideal S1x256 .f32) (v : Fin 256 → EReal) (h : ∀ l, row (ix2 0 l) = v l) (j : Fin 128) :
    k0_pay11 (F := Ideal) a10 a12 a6 a8 acc row (ix2 j 0)
      = S j + relu (lin (Net.ofArrays a0 a2 a3 a4 a5 a6 a7 a8 a10 a12).Wn2 (fun l => relu (lin (Net.ofArrays a0 a2 a3 a4 a5 a6 a7 a8 a10 a12).Wn1 ((Net.ofArrays a0 a2 a3 a4 a5 a6 a7 a8 a10 a12).summary S) l + v l)) j) := by
  have e : (Net.ofArrays a0 a2 a3 a4 a5 a6 a7 a8 a10 a12).summary S = fun j => relu (lin (Net.ofArrays a0 a2 a3 a4 a5 a6 a7 a8 a10 a12).Ws2 (fun l => relu (lin (Net.ofArrays a0 a2 a3 a4 a5 a6 a7 a8 a10 a12).Ws1 S l)) j) := rfl
  rw [e]
  pointwise [k0_pay11, k0_pay9, k0_pay6]
  simp only [h, hS]
  simp only [lin_halves]
  rfl

/-- Trip `k` loads the row of the node that step `k + 1` handles. -/
theorem nodeRow_at (RN : S8192x256.Idx → Elt Ideal .f32) (k : Fin k0_t1_loop.trips) (l : Fin 256) :
    nodeRow RN k (ix2 0 l) = RN (ix2 (Net.node (k.val + 1)) l) := by
  unfold nodeRow
  congr 1
  have e := k0_off1_eq k
  funext a
  apply Fin.ext
  rw [LoadRect.idx_apply]
  fin_cases a
  · simp [Rect.unit, e, Net.node]
  · simp [Rect.unit, e]

/-- The row loaded before the loop is the first step's node. -/
theorem lastRow_at (RN : S8192x256.Idx → Elt Ideal .f32) (l : Fin 256) : lastRow RN (ix2 0 l) = RN (ix2 (Net.node 0) l) := by
  unfold lastRow
  congr 1
  funext a
  apply Fin.ext
  rw [LoadRect.idx_apply]
  fin_cases a
  · simp [Rect.unit, Net.node]
  · simp [Rect.unit]

/-- The kernel's running sum before trip `k` is the sum before step `k + 1`. -/
theorem run_at (h : (Net.ofArrays a0 a2 a3 a4 a5 a6 a7 a8 a10 a12).Finite) (k : ℕ) (hk : k ≤ 8191) : ∀ j : Fin 128,
    run (F := Ideal) a6 a8 a10 a12 (nodes (F := Ideal) a0 a2 (shapeCast S1x256 a3 shapeCasts_S256_S1x256) a4 (shapeCast S1x128 a5 shapeCasts_S128_S1x128) a6
        (shapeCast S1x256 a7 shapeCasts_S256_S1x256)) k (ix2 j 0) = (Net.ofArrays a0 a2 a3 a4 a5 a6 a7 a8 a10 a12).sum (k + 1) j := by
  induction k with
  | zero =>
    intro j
    rw [sum_one]
    exact init_at a0 a2 a3 a4 a5 a6 a7 a8 a10 a12 _ _ (fun l => (lastRow_at _ l).trans (nodes_at a0 a2 a3 a4 a5 a6 a7 a8 a10 a12 _ l)) j
  | succ k ih =>
    intro j
    have hkt : k < k0_t1_loop.trips := by rw [trips_eq]; omega
    rw [sum_succ _ h, run]
    refine (congrFun (carry_succ (F := Ideal) a10 a12 a6 a8 _ _ ⟨k, hkt⟩) _).trans ?_
    exact step_at a0 a2 a3 a4 a5 a6 a7 a8 a10 a12 _ _ (ih (by omega)) _ _
      (fun l => (nodeRow_at _ _ l).trans (nodes_at a0 a2 a3 a4 a5 a6 a7 a8 a10 a12 _ l)) j

/-- The summary network's hidden layer as the third scratch holds it, read at a node. -/
theorem hidden_ix (cr : ℕ → FVec Ideal S128x1 .f32) (i : Fin 8192) (l : Fin 256) :
    GcnRows.hidden (F := Ideal) a10 cr (ix2 i l)
      = if i.val = 8191 then k0_pay7 (F := Ideal) (ix2 0 l) else k0_pay10 (F := Ideal) a10 (cr (8190 - i.val)) (ix2 0 l) := by
  have e : (ix2 0 l : S1x256.Idx) = ValueIdx.ix2 (0 : Fin 1) l := ix2_eq_valueIdx ..
  rw [e]
  rfl

/-- The kernel's output at finite inputs. -/
theorem outBlock_at (h : (Net.ofArrays a0 a2 a3 a4 a5 a6 a7 a8 a10 a12).Finite) (i : Fin 8192) (j : Fin 128) :
    outBlock (F := Ideal) a0 a2 (shapeCast S1x256 a3 shapeCasts_S256_S1x256) a4 (shapeCast S1x128 a5 shapeCasts_S128_S1x128) a6
        (shapeCast S1x256 a7 shapeCasts_S256_S1x256) a8 a10 a12 (ix2 i j) = (Net.ofArrays a0 a2 a3 a4 a5 a6 a7 a8 a10 a12).result i j := by
  have hh : ∀ l : Fin 256, GcnRows.hidden (F := Ideal) a10 (run a6 a8 a10 a12 (nodes (F := Ideal) a0 a2 (shapeCast S1x256 a3 shapeCasts_S256_S1x256) a4
      (shapeCast S1x128 a5 shapeCasts_S128_S1x128) a6 (shapeCast S1x256 a7 shapeCasts_S256_S1x256))) (ix2 i l)
      = if 8191 - i.val = 0 then 0 else relu (lin (Net.ofArrays a0 a2 a3 a4 a5 a6 a7 a8 a10 a12).Ws1 ((Net.ofArrays a0 a2 a3 a4 a5 a6 a7 a8 a10 a12).sum (8191 - i.val)) l) := by
    intro l
    rw [hidden_ix]
    by_cases hi : i.val = 8191
    · rw [if_pos hi, if_pos (by omega)]
      pointwise [k0_pay7]
    · rw [if_neg hi, if_neg (by omega)]
      refine hidden_at a0 a2 a3 a4 a5 a6 a7 a8 a10 a12 _ _ (fun j => ?_) l
      rw [show 8191 - i.val = 8190 - i.val + 1 by omega]
      exact run_at a0 a2 a3 a4 a5 a6 a7 a8 a10 a12 h _ (by omega) j
  unfold outBlock
  pointwise [k0_pay12, k0_pay1]
  rw [feats_at a0 a2 a3 a4 a5 a6 a7 a8 a10 a12]
  simp only [hh, Net.result, Net.out]
  have hn : Net.node (8191 - i.val) = i := Fin.ext (by show 8191 - (8191 - i.val) = i.val; omega)
  rw [hn]
  congr 1
  by_cases hi : 8191 - i.val = 0
  · simp only [if_pos hi, zero_mul, Finset.sum_const_zero, max_self]
  · simp only [if_neg hi]
    rfl

end Cert.KernelIdeal.GcnMath

end
-- ==== Proof.RefStep.lean ====
module

public import proofs.«01_k».proof.Proof.Gen.ReferenceIdeal.Run
public import proofs.«01_k».proof.Proof.Spec
public import Idealize.ShloMosaic.Lib.DynamicIndex
public import Idealize.ShloMosaic.Lib.Pipeline.Value

@[expose] public section

set_option maxRecDepth 16384

noncomputable section

namespace Cert.ReferenceIdeal.GcnRef

open Idealize.ShloMosaic
open Cert.Gcn
open Cert.ReferenceIdeal Cert.ReferenceIdeal.Gen

/-- The counter's word at step `t`. -/
abbrev at32 (t : ℕ) : IVec S_ 32 := fun _ => BitVec.ofNat 32 t

/-- The starts of a row's block: the counter on the first axis, zero on the second. -/
abbrev rowStart (i : IVec S_ 32) (k : Fin 2) : ℤ :=
  (((![i, constantI S_ 32 0#32] : Fin 2 → (⟨S_, .i32⟩ : BufTy).Contents (Elt Ideal))) k (Shape.Idx.first h_S_)).toInt

/-- At step `t` the starts are `t` and `0`. -/
theorem rowStart_at (t : ℕ) (ht : t < 8192) (a : Fin 2) : rowStart (at32 t) a = ((![t, 0] : Fin 2 → ℕ) a : ℤ) := by
  fin_cases a
  · exact toInt_ofNat_of_lt (by omega)
  · rfl

/-- The row of the reversed features that a step reads. -/
theorem slice_row (x : FVec Ideal S8192x256 .f32) (t : Fin 8192) (l : Fin 256) :
    shapeCast S256 (Host.dynamicSlice S1x256 x (rowStart (at32 t.val)) sliceFits_S8192x256_S1x256) shapeCasts_S1x256_S256 (ix1 l)
      = x (ix2 t l) := by
  have hoff : S8192x256.Slices (![t.val, 0] : Fin 2 → ℕ) S1x256 := by
    refine ⟨rfl, fun a => ?_⟩
    have := t.isLt
    fin_cases a
    · show t.val + 1 ≤ 8192; omega
    · show 0 + 256 ≤ 256; omega
  rw [Host.dynamicSlice_eq_extractStridedSlice S1x256 x _ (![t.val, 0] : Fin 2 → ℕ) _ hoff (rowStart_at t.val t.isLt)]
  pointwise

/-- The flag that a step reads. -/
theorem slice_flag (x : FVec Ideal S8192 .f32) (t : Fin 8192) (i : S_.Idx) :
    shapeCast S_ (Host.dynamicSlice S1 x (fun k => (((![at32 t.val] : Fin 1 → (⟨S_, .i32⟩ : BufTy).Contents (Elt Ideal))) k
        (Shape.Idx.first h_S_)).toInt) sliceFits_S8192_S1) shapeCasts_S1_S_ i = x (ix1 t) := by
  have hoff : S8192.Slices (![t.val] : Fin 1 → ℕ) S1 := by
    refine ⟨rfl, fun a => ?_⟩
    have := t.isLt
    fin_cases a
    show t.val + 1 ≤ 8192; omega
  rw [Host.dynamicSlice_eq_extractStridedSlice S1 x _ (![t.val] : Fin 1 → ℕ) _ hoff (fun a => by
    fin_cases a
    exact toInt_ofNat_of_lt (by have := t.isLt; omega))]
  pointwise

/-- The row that a step writes, in the output it leaves. -/
theorem write_row (x : FVec Ideal S8192x128 .f32) (u : FVec Ideal S128 .f32) (t i : Fin 8192) (j : Fin 128) :
    Host.dynamicUpdateSlice x (broadcastInDim S1x128 ![1] bcast_S128_S1x128_1 u) (rowStart (at32 t.val)) updateFits_S8192x128_S1x128 (ix2 i j)
      = if i = t then u (ix1 j) else x (ix2 i j) := by
  have hfit : S8192x128.Slices (![t.val, 0] : Fin 2 → ℕ) S1x128 := by
    refine ⟨rfl, fun a => ?_⟩
    have := t.isLt
    fin_cases a
    · show t.val + 1 ≤ 8192; omega
    · show 0 + 128 ≤ 128; omega
  rw [Host.dynamicUpdateSlice_eq_updateSlice x _ _ _ (![t.val, 0] : Fin 2 → ℕ) (fun a => by
    rw [rowStart_at t.val t.isLt]
    have := t.isLt
    fin_cases a
    · show (min (max ((t.val : ℕ) : ℤ) 0) ((8192 - 1 : ℕ) : ℤ)).toNat = t.val; omega
    · rfl) hfit]
  pointwise
  by_cases h : i = t
  · subst h
    rw [if_pos rfl, dif_pos ⟨le_rfl, by omega⟩]
  · rw [if_neg h, dif_neg (fun hc => h (Fin.ext (by omega)))]

/-- The output of a step, from the arrays it reads, the counter and the running sum. -/
def refRow (x : FVec Ideal S8192x256 .f32) (fl : FVec Ideal S8192 .f32) (w1 : FVec Ideal S256x256 .f32) (b1 : FVec Ideal S256 .f32)
    (w2 : FVec Ideal S256x128 .f32) (b2 : FVec Ideal S128 .f32) (ws1 : FVec Ideal S128x256 .f32) (bs1 : FVec Ideal S256 .f32)
    (ws2 : FVec Ideal S256x128 .f32) (bs2 : FVec Ideal S128 .f32) (i : IVec S_ 32) (S : FVec Ideal S128 .f32) : FVec Ideal S128 .f32 :=
  let v11 : FVec Ideal S256 .f32 := addf (Host.dotGeneral dot_S256_S256x256_S256_0_0_n_1_n_n none
    (shapeCast S256 (Host.dynamicSlice S1x256 x (rowStart i) sliceFits_S8192x256_S1x256) shapeCasts_S1x256_S256) w1) b1
  let v18 : FVec Ideal S128 .f32 := addf (Host.dotGeneral dot_S256_S256x128_S128_0_0_n_1_n_n none
    (select (cmpf .ogt v11 (broadcastInDim S256 ![] bcast_S_S256 (constant S_ .f32 0x00000000#32))) v11
      (mulf (broadcastInDim S256 ![] bcast_S_S256 (constant S_ .f32 0x3C23D70A#32)) v11)) w2) b2
  addf (select (cmpf .ogt v18 (broadcastInDim S128 ![] bcast_S_S128 (constant S_ .f32 0x00000000#32))) v18
      (mulf (broadcastInDim S128 ![] bcast_S_S128 (constant S_ .f32 0x3C23D70A#32)) v18))
    (mulf (broadcastInDim S128 ![] bcast_S_S128 (shapeCast S_ (Host.dynamicSlice S1 fl
        (fun k => (((![i] : Fin 1 → (⟨S_, .i32⟩ : BufTy).Contents (Elt Ideal))) k (Shape.Idx.first h_S_)).toInt) sliceFits_S8192_S1) shapeCasts_S1_S_))
      (maximumf (addf (Host.dotGeneral dot_S256_S256x128_S128_0_0_n_1_n_n none
        (maximumf (addf (Host.dotGeneral dot_S128_S128x256_S256_0_0_n_1_n_n none S ws1) bs1)
          (broadcastInDim S256 ![] bcast_S_S256 (constant S_ .f32 0x00000000#32))) ws2) bs2)
        (broadcastInDim S128 ![] bcast_S_S128 (constant S_ .f32 0x00000000#32))))

/-- The running sum after a step, from its output and the sum before it. -/
def refSum (wn1 : FVec Ideal S128x256 .f32) (bn1 : FVec Ideal S256 .f32) (wn2 : FVec Ideal S256x128 .f32) (bn2 : FVec Ideal S128 .f32)
    (o S : FVec Ideal S128 .f32) : FVec Ideal S128 .f32 :=
  addf S (maximumf (addf (Host.dotGeneral dot_S256_S256x128_S128_0_0_n_1_n_n none
    (maximumf (addf (Host.dotGeneral dot_S128_S128x256_S256_0_0_n_1_n_n none o wn1) bn1)
      (broadcastInDim S256 ![] bcast_S_S256 (constant S_ .f32 0x00000000#32))) wn2) bn2)
    (broadcastInDim S128 ![] bcast_S_S128 (constant S_ .f32 0x00000000#32)))

/-- The flags: zero for the first step, one for the others. -/
def flags : FVec Ideal S8192 .f32 :=
  concatenate S8192 0 [⟨S1, broadcastInDim S1 ![] bcast_S_S1 (constant S_ .f32 0x00000000#32)⟩,
    ⟨S8191, broadcastInDim S8191 ![] bcast_S_S8191 (constant S_ .f32 0x3F800000#32)⟩] concatenates_S1_S8191_S8192_d0

/-- The flag of step `t`. -/
theorem flags_at (t : Fin 8192) : flags (ix1 t) = if t.val = 0 then 0 else 1 := by
  pointwise [flags]
  by_cases h : t.val = 0
  · rw [dif_pos (by omega), if_pos h]
  · rw [dif_neg (by omega), if_neg h]

variable (a0 : FVec Ideal S8192x256 .f32) (a2 : FVec Ideal S256x256 .f32) (a3 : FVec Ideal S256 .f32) (a4 : FVec Ideal S256x128 .f32)
  (a5 : FVec Ideal S128 .f32) (a6 : FVec Ideal S128x256 .f32) (a7 : FVec Ideal S256 .f32) (a8 : FVec Ideal S256x128 .f32)
  (a10 : FVec Ideal S128x256 .f32) (a12 : FVec Ideal S256x128 .f32) (bs1 : FVec Ideal S256 .f32) (bs2 bn2 : FVec Ideal S128 .f32)

/-- The output of step `t`, where the summary network's biases are zero. -/
theorem refRow_at (hs1 : ∀ l, bs1 (ix1 l) = 0) (hs2 : ∀ j, bs2 (ix1 j) = 0) (t : Fin 8192) (S : FVec Ideal S128 .f32)
    (v : Fin 128 → EReal) (hS : ∀ j, S (ix1 j) = v j) (j : Fin 128) :
    refRow (Host.reverse [0] a0) flags a2 a3 a4 a5 a10 bs1 a12 bs2 (at32 t.val) S (ix1 j) = (Net.ofArrays a0 a2 a3 a4 a5 a6 a7 a8 a10 a12).out t.val v j := by
  have hx : ∀ l, shapeCast S256 (Host.dynamicSlice S1x256 (Host.reverse [0] a0) (rowStart (at32 t.val)) sliceFits_S8192x256_S1x256)
      shapeCasts_S1x256_S256 (ix1 l) = (Net.ofArrays a0 a2 a3 a4 a5 a6 a7 a8 a10 a12).X (Net.node t.val) l := fun l => by
    rw [slice_row]
    show a0 _ = a0 _
    congr 1
    funext a
    apply Fin.ext
    fin_cases a
    · show 8192 - (t.val + 1) = 8191 - t.val; omega
    · rfl
  have hf : ∀ i : S_.Idx, shapeCast S_ (Host.dynamicSlice S1 flags (fun k => (((![at32 t.val] : Fin 1 → (⟨S_, .i32⟩ : BufTy).Contents (Elt Ideal))) k
        (Shape.Idx.first h_S_)).toInt) sliceFits_S8192_S1) shapeCasts_S1_S_ i = if t.val = 0 then 0 else 1 := fun i =>
    (slice_flag flags t i).trans (flags_at t)
  unfold refRow
  generalize hX : shapeCast S256 (Host.dynamicSlice S1x256 (Host.reverse [0] a0) (rowStart (at32 t.val)) sliceFits_S8192x256_S1x256)
      shapeCasts_S1x256_S256 = xr at hx ⊢
  generalize hF : shapeCast S_ (Host.dynamicSlice S1 flags (fun k => (((![at32 t.val] : Fin 1 → (⟨S_, .i32⟩ : BufTy).Contents (Elt Ideal))) k
        (Shape.Idx.first h_S_)).toInt) sliceFits_S8192_S1) shapeCasts_S1_S_ = fr at hf ⊢
  pointwise
  simp only [hx, hf, hs1, hs2, hS, add_zero]
  unfold Net.out
  by_cases h : t.val = 0
  · rw [if_pos h, if_pos h, zero_mul]
    rfl
  · rw [if_neg h, if_neg h, one_mul]
    rfl

/-- The running sum after a step, where the neighbour network's last bias is zero. -/
theorem refSum_at (hn2 : ∀ j, bn2 (ix1 j) = 0) (o S : FVec Ideal S128 .f32) (w v : Fin 128 → EReal) (ho : ∀ j, o (ix1 j) = w j)
    (hS : ∀ j, S (ix1 j) = v j) (j : Fin 128) : refSum a6 a7 a8 bn2 o S (ix1 j) = v j + (Net.ofArrays a0 a2 a3 a4 a5 a6 a7 a8 a10 a12).message w j := by
  pointwise [refSum]
  simp only [ho, hS, hn2, add_zero]
  rfl

end Cert.ReferenceIdeal.GcnRef

end
-- ==== Proof.RefRun.lean ====
module

public import proofs.«01_k».proof.Proof.RefStep

@[expose] public section

set_option maxRecDepth 16384

noncomputable section

namespace Cert.ReferenceIdeal.GcnRefRun

open Idealize.ShloMosaic Idealize.ShloMosaic.TcCoe Idealize.ShloMosaic.Tactic
open Idealize.ShloMosaic.StableHlo
open Cert.Gcn
open Cert.ReferenceIdeal Cert.ReferenceIdeal.Gen Cert.ReferenceIdeal.Value Cert.ReferenceIdeal.GcnRef

variable (a0 : FVec Ideal S8192x256 .f32) (a2 : FVec Ideal S256x256 .f32) (a3 : FVec Ideal S256 .f32) (a4 : FVec Ideal S256x128 .f32)
  (a5 : FVec Ideal S128 .f32) (a6 : FVec Ideal S128x256 .f32) (a7 : FVec Ideal S256 .f32) (a8 : FVec Ideal S256x128 .f32)
  (bn2 : FVec Ideal S128 .f32) (a10 : FVec Ideal S128x256 .f32) (bs1 : FVec Ideal S256 .f32) (a12 : FVec Ideal S256x128 .f32)
  (bs2 : FVec Ideal S128 .f32)

/-- What the loop's buffers hold before step `t`: the inputs, the counter, the running sum, and the rows written so far. -/
structure Inv (t : ℕ) (V : Valuation τ sig (Elt Ideal)) : Prop where
  x : V (Proc.devRef .tc main_v6_0) = Host.reverse [0] a0
  fl : V (Proc.devRef .tc main_v6_1) = flags
  w1 : V (Proc.devRef .tc main_v6_2) = a2
  b1 : V (Proc.devRef .tc main_v6_3) = a3
  w2 : V (Proc.devRef .tc main_v6_4) = a4
  b2 : V (Proc.devRef .tc main_v6_5) = a5
  ws1 : V (Proc.devRef .tc main_v6_6) = a10
  bs1 : V (Proc.devRef .tc main_v6_7) = bs1
  ws2 : V (Proc.devRef .tc main_v6_8) = a12
  bs2 : V (Proc.devRef .tc main_v6_9) = bs2
  wn1 : V (Proc.devRef .tc main_v6_10) = a6
  bn1 : V (Proc.devRef .tc main_v6_11) = a7
  wn2 : V (Proc.devRef .tc main_v6_12) = a8
  bn2 : V (Proc.devRef .tc main_v6_13) = bn2
  ctr : V (Proc.devRef .tc main_v6_14) = at32 t
  sum : ∀ j : Fin 128, (V (Proc.devRef .tc main_v6_15) : FVec Ideal S128 .f32) (ix1 j) = (Net.ofArrays a0 a2 a3 a4 a5 a6 a7 a8 a10 a12).sum t j
  rows : ∀ (i : Fin 8192) (j : Fin 128), i.val < t →
    (V (Proc.devRef .tc main_v6_16) : FVec Ideal S8192x128 .f32) (ix2 i j) = (Net.ofArrays a0 a2 a3 a4 a5 a6 a7 a8 a10 a12).out i.val ((Net.ofArrays a0 a2 a3 a4 a5 a6 a7 a8 a10 a12).sum i.val) j

/-- The row that one trip writes. -/
theorem row_eq (t : ℕ) (V : Valuation τ sig (Elt Ideal)) (h : Inv a0 a2 a3 a4 a5 a6 a7 a8 bn2 a10 bs1 a12 bs2 t V) :
    res_main_while0b_v32 V
      = refRow (Host.reverse [0] a0) flags a2 a3 a4 a5 a10 bs1 a12 bs2 (at32 t) (V (Proc.devRef .tc main_v6_15)) := by
  have e : res_main_while0b_v32 V = refRow (V (Proc.devRef .tc main_v6_0)) (V (Proc.devRef .tc main_v6_1)) (V (Proc.devRef .tc main_v6_2))
      (V (Proc.devRef .tc main_v6_3)) (V (Proc.devRef .tc main_v6_4)) (V (Proc.devRef .tc main_v6_5)) (V (Proc.devRef .tc main_v6_6))
      (V (Proc.devRef .tc main_v6_7)) (V (Proc.devRef .tc main_v6_8)) (V (Proc.devRef .tc main_v6_9)) (V (Proc.devRef .tc main_v6_14))
      (V (Proc.devRef .tc main_v6_15)) := rfl
  rw [e, h.x, h.fl, h.w1, h.b1, h.w2, h.b2, h.ws1, h.bs1, h.ws2, h.bs2, h.ctr]

/-- One trip takes what holds before step `t` to what holds before step `t + 1`, where the three last biases are zero. -/
theorem inv_step (hn2 : ∀ j, bn2 (ix1 j) = 0) (hs1 : ∀ l, bs1 (ix1 l) = 0) (hs2 : ∀ j, bs2 (ix1 j) = 0) (t : ℕ) (ht : t < 8192)
    (V : Valuation τ sig (Elt Ideal)) (h : Inv a0 a2 a3 a4 a5 a6 a7 a8 bn2 a10 bs1 a12 bs2 t V) :
    Inv a0 a2 a3 a4 a5 a6 a7 a8 bn2 a10 bs1 a12 bs2 (t + 1) (STEP V) := by
  have hrow : ∀ j : Fin 128, (res_main_while0b_v32 V : FVec Ideal S128 .f32) (ix1 j) = (Net.ofArrays a0 a2 a3 a4 a5 a6 a7 a8 a10 a12).out t ((Net.ofArrays a0 a2 a3 a4 a5 a6 a7 a8 a10 a12).sum t) j := fun j => by
    rw [row_eq a0 a2 a3 a4 a5 a6 a7 a8 bn2 a10 bs1 a12 bs2 t V h]
    exact refRow_at a0 a2 a3 a4 a5 a6 a7 a8 a10 a12 bs1 bs2 hs1 hs2 ⟨t, ht⟩ _ _ h.sum j
  refine ⟨(STEP_main_v6_0 V).trans h.x, (STEP_main_v6_1 V).trans h.fl, (STEP_main_v6_2 V).trans h.w1, (STEP_main_v6_3 V).trans h.b1,
    (STEP_main_v6_4 V).trans h.w2, (STEP_main_v6_5 V).trans h.b2, (STEP_main_v6_6 V).trans h.ws1, (STEP_main_v6_7 V).trans h.bs1,
    (STEP_main_v6_8 V).trans h.ws2, (STEP_main_v6_9 V).trans h.bs2, (STEP_main_v6_10 V).trans h.wn1, (STEP_main_v6_11 V).trans h.bn1,
    (STEP_main_v6_12 V).trans h.wn2, (STEP_main_v6_13 V).trans h.bn2, ?_, ?_, ?_⟩
  · rw [STEP_main_v6_14]
    have e : step_main_v6_14 V = addi (V (Proc.devRef .tc main_v6_14)) (constantI S_ 32 1#32) := rfl
    rw [e, h.ctr]
    funext i
    show BitVec.ofNat 32 t + BitVec.ofNat 32 1 = BitVec.ofNat 32 (t + 1)
    rw [BitVec.ofNat_add]
  · intro j
    rw [STEP_main_v6_15]
    have e : step_main_v6_15 V = refSum (V (Proc.devRef .tc main_v6_10)) (V (Proc.devRef .tc main_v6_11)) (V (Proc.devRef .tc main_v6_12))
        (V (Proc.devRef .tc main_v6_13)) (res_main_while0b_v32 V) (V (Proc.devRef .tc main_v6_15)) := rfl
    rw [e, h.wn1, h.bn1, h.wn2, h.bn2]
    exact refSum_at a0 a2 a3 a4 a5 a6 a7 a8 a10 a12 bn2 hn2 _ _ _ _ hrow h.sum j
  · intro i j hi
    rw [STEP_main_v6_16]
    have e : step_main_v6_16 V = Host.dynamicUpdateSlice (V (Proc.devRef .tc main_v6_16))
        (broadcastInDim S1x128 ![1] bcast_S128_S1x128_1 (res_main_while0b_v32 V)) (rowStart (V (Proc.devRef .tc main_v6_14)))
        updateFits_S8192x128_S1x128 := rfl
    rw [e, h.ctr]
    refine (write_row _ _ ⟨t, ht⟩ i j).trans ?_
    by_cases hit : i = ⟨t, ht⟩
    · rw [if_pos hit, hit]
      exact hrow j
    · rw [if_neg hit]
      refine h.rows i j ?_
      have : i.val ≠ t := fun hc => hit (Fin.ext hc)
      omega

/-- After `t` trips from contents that meet the start's conditions, those of step `t` are met. -/
theorem inv_iter (hn2 : ∀ j, bn2 (ix1 j) = 0) (hs1 : ∀ l, bs1 (ix1 l) = 0) (hs2 : ∀ j, bs2 (ix1 j) = 0)
    (V : Valuation τ sig (Elt Ideal)) (h : Inv a0 a2 a3 a4 a5 a6 a7 a8 bn2 a10 bs1 a12 bs2 0 V) (t : ℕ) (ht : t ≤ 8192) :
    Inv a0 a2 a3 a4 a5 a6 a7 a8 bn2 a10 bs1 a12 bs2 t (STEP^[t] V) := by
  induction t with
  | zero => exact h
  | succ t ih =>
    rw [Function.iterate_succ_apply']
    exact inv_step a0 a2 a3 a4 a5 a6 a7 a8 bn2 a10 bs1 a12 bs2 hn2 hs1 hs2 t (by omega) _ (ih (by omega))

/-- The reference's result once all steps are done: node `i` is row `8191 - i` of what the steps wrote. -/
theorem out_at (V : Valuation τ sig (Elt Ideal)) (h : Inv a0 a2 a3 a4 a5 a6 a7 a8 bn2 a10 bs1 a12 bs2 8192 V) (i : Fin 8192) (j : Fin 128) :
    (out_main_v7 V : FVec Ideal S8192x128 .f32) (ix2 i j) = (Net.ofArrays a0 a2 a3 a4 a5 a6 a7 a8 a10 a12).result i j := by
  have e : (out_main_v7 V : FVec Ideal S8192x128 .f32) (ix2 i j)
      = (V (Proc.devRef .tc main_v6_16) : FVec Ideal S8192x128 .f32) (ix2 ⟨8191 - i.val, by omega⟩ j) := by
    show (V (Proc.devRef .tc main_v6_16) : FVec Ideal S8192x128 .f32) _ = _
    congr 1
    funext a
    apply Fin.ext
    fin_cases a
    · show 8192 - (i.val + 1) = 8191 - i.val; omega
    · rfl
  rw [e, h.rows _ _ (by show 8191 - i.val < 8192; omega)]
  rfl

/-- The conditions of the start hold of what the operations before the loop leave. -/
theorem inv_entry (m : (ℓ : Loc nD τ sig) → Buf (Elt Ideal) ℓ) (c : Dev nD) :
    Inv (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9))
      (m ((c.tc : Thread nD τ).loc main_arg10)) (m ((c.tc : Thread nD τ).loc main_arg11)) (m ((c.tc : Thread nD τ).loc main_arg12))
      (m ((c.tc : Thread nD τ).loc main_arg13)) 0 (entryContents preI m c) := by
  constructor
  all_goals simp only [entryContents, afterL_cons, afterL_nil]
  all_goals after_reads_simp
  all_goals first | rfl | skip
  · intro j
    exact Ideal.ofBits_zero_f32
  · intro i j hi
    exact absurd hi (Nat.not_lt_zero _)

end Cert.ReferenceIdeal.GcnRefRun

end
-- ==== Proof.Pre.lean ====
module

public import proofs.«01_k».proof.Proof.Gen.Pre_zero_tail_biases
public import proofs.«01_k».proof.Proof.Spec
public import Idealize.ShloMosaic.Lib.ReduceAll

@[expose] public section

set_option maxRecDepth 16384

noncomputable section

namespace Cert.Pre_zero_tail_biases.GcnPre

open Idealize.ShloMosaic
open Cert.Gcn
open Cert.Pre_zero_tail_biases Cert.Pre_zero_tail_biases.Gen

/-- A conjunction of two bits is one only where both are. -/
theorem both (a b : IVec S_ 1) (h : andi a b = fun _ => 1#1) : a = (fun _ => 1#1) ∧ b = fun _ => 1#1 := by
  have key : ∀ x y : BitVec 1, x &&& y = 1#1 → x = 1#1 ∧ y = 1#1 := by decide
  exact ⟨funext fun i => (key _ _ (congrFun h i)).1, funext fun i => (key _ _ (congrFun h i)).2⟩

/-- A bit made of a proposition is one only where the proposition holds. -/
theorem of_bit (b : Bool) (h : BitVec.ofBool b = 1#1) : b = true := by
  revert h
  cases b <;> decide

/-- The constant infinity. -/
theorem infinity : Ideal.ofBits .f32 0x7F800000#32 = ⊤ := by
  simp [Ideal.ofBits, Ideal.ieee]

/-- An extended real equal to the constant zero by the comparison's bit is zero. -/
theorem zero_of_bit (x : EReal) (h : Ideal.cmp .oeq x (Ideal.ofBits .f32 0x00000000#32) = 1#1) : x = 0 := by
  rw [Ideal.ofBits_zero_f32] at h
  exact of_decide_eq_true (of_bit _ h)

/-- An extended real whose magnitude is below the constant infinity by the comparison's bit is finite. -/
theorem finite_of_bit (x : EReal) (h : Ideal.cmp .olt (max x (-x)) (Ideal.ofBits .f32 0x7F800000#32) = 1#1) : ∃ r : ℝ, x = r := by
  rw [infinity] at h
  have hlt : max x (-x) < ⊤ := of_decide_eq_true (of_bit _ h)
  rw [max_lt_iff] at hlt
  refine ⟨x.toReal, (EReal.coe_toReal (ne_of_lt hlt.1) fun hb => ?_).symm⟩
  rw [hb, EReal.neg_bot] at hlt
  exact absurd hlt.2 (lt_irrefl _)

/-- The single index of a scalar. -/
instance : Subsingleton S_.Idx := ⟨fun a b => funext fun k => k.elim0⟩

/-- All entries of `x` are zero where the reduced comparison says so. -/
theorem all_zero {s : Shape} {axes : List (Fin s.rank)} (x : FVec Ideal s .f32) (hb : S_.BroadcastsInDim s (![] : Fin 0 → Fin s.rank))
    (hr : s.ReducesTo axes S_)
    (h : Host.reduce IntOp.andi (cmpf .oeq x (broadcastInDim s ![] hb (constant (F := Ideal) S_ .f32 0x00000000#32))) (constantI S_ 1 1#1) hr h_S_
      = fun _ => 1#1) (i : s.Idx) : x i = (0 : EReal) :=
  zero_of_bit _ (Host.reduce_andi_all _ _ hr h_S_ (Shape.Idx.first h_S_) (congrFun h _) i)

/-- All entries of `x` are finite where the reduced comparison says so. -/
theorem all_finite {s : Shape} {axes : List (Fin s.rank)} (x : FVec Ideal s .f32) (hb : S_.BroadcastsInDim s (![] : Fin 0 → Fin s.rank))
    (hr : s.ReducesTo axes S_)
    (h : Host.reduce IntOp.andi (cmpf .olt (Host.absf x) (broadcastInDim s ![] hb (constant (F := Ideal) S_ .f32 0x7F800000#32))) (constantI S_ 1 1#1)
      hr h_S_ = fun _ => 1#1) (i : s.Idx) : ∃ r : ℝ, x i = (r : EReal) :=
  finite_of_bit _ (Host.reduce_andi_all _ _ hr h_S_ (Shape.Idx.first h_S_) (congrFun h _) i)

variable (a0 : FVec Ideal S8192x256 .f32) (a1 : FVec Ideal S8192 .f32) (a2 : FVec Ideal S256x256 .f32) (a3 : FVec Ideal S256 .f32)
  (a4 : FVec Ideal S256x128 .f32) (a5 : FVec Ideal S128 .f32) (a6 : FVec Ideal S128x256 .f32) (a7 : FVec Ideal S256 .f32)
  (a8 : FVec Ideal S256x128 .f32) (a9 : FVec Ideal S128 .f32) (a10 : FVec Ideal S128x256 .f32) (a11 : FVec Ideal S256 .f32)
  (a12 : FVec Ideal S256x128 .f32) (a13 : FVec Ideal S128 .f32)

/-- What the precondition says: the three last biases are zero, and the inputs that the equation needs finite are finite. -/
theorem decode (h : Cert.Pre_zero_tail_biases.fn (F := Ideal) a0 a1 a2 a3 a4 a5 a6 a7 a8 a9 a10 a11 a12 a13 = fun _ => 1#1) :
    (∀ i, a9 i = (0 : EReal)) ∧ (∀ i, a11 i = (0 : EReal)) ∧ (∀ i, a13 i = (0 : EReal))
      ∧ (Net.ofArrays a0 a2 a3 a4 a5 a6 a7 a8 a10 a12).Finite := by
  dsimp only [fn, fn_part1, fn_part2] at h
  obtain ⟨h, h6⟩ := both _ _ h
  obtain ⟨h, h5⟩ := both _ _ h
  obtain ⟨h, h4⟩ := both _ _ h
  obtain ⟨h, h3⟩ := both _ _ h
  obtain ⟨h, h2⟩ := both _ _ h
  obtain ⟨h, h0⟩ := both _ _ h
  obtain ⟨h, h13⟩ := both _ _ h
  obtain ⟨h9, h11⟩ := both _ _ h
  exact ⟨all_zero a9 _ _ h9, all_zero a11 _ _ h11, all_zero a13 _ _ h13,
    ⟨fun i k => all_finite a0 _ _ h0 (ix2 i k), fun i k => all_finite a2 _ _ h2 (ix2 i k), fun i => all_finite a3 _ _ h3 (ix1 i),
      fun i k => all_finite a4 _ _ h4 (ix2 i k), fun i => all_finite a5 _ _ h5 (ix1 i), fun i k => all_finite a6 _ _ h6 (ix2 i k)⟩⟩

end Cert.Pre_zero_tail_biases.GcnPre

end
-- ==== Proof.Algebra.lean ====
module

public import proofs.«01_k».proof.Defs
public import proofs.«01_k».proof.Proof.KernelMath
public import proofs.«01_k».proof.Proof.RefRun
public import proofs.«01_k».proof.Proof.Pre
public import Idealize.ShloMosaic.Lib.Claim

@[expose] public section

set_option maxRecDepth 16384

noncomputable section

namespace Cert.Gcn

open Idealize.ShloMosaic Idealize.SL.Sem

attribute [local instance] Cert.KernelIdeal.Gen.facts Cert.ReferenceIdeal.Gen.facts Cert.Pre_zero_tail_biases.Gen.facts

/-- Where the precondition holds and the arguments agree, the reference's result array is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_zero_tail_biases m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (i : Fin 8192) (j : Fin 128) :
    (Cert.ReferenceIdeal.Value.out_main_v7 (Cert.ReferenceIdeal.Value.STEP^[8192] (Idealize.ShloMosaic.StableHlo.entryContents Cert.ReferenceIdeal.Value.preI m' c))
        : FVec Ideal Cert.ReferenceIdeal.S8192x128 .f32) (ix2 i j)
      = (Cert.KernelIdeal.GcnLaunch.result m c : FVec Ideal Cert.KernelIdeal.S8192x128 .f32) (ix2 i j) := by
  obtain ⟨h9, h11, h13, hf⟩ := Cert.Pre_zero_tail_biases.GcnPre.decode _ _ _ _ _ _ _ _ _ _ _ _ _ _ (hp c)
  have hi := Cert.ReferenceIdeal.GcnRefRun.inv_entry m' c
  rw [e0, e2, e3, e4, e5, e6, e7, e8, e9, e10, e11, e12, e13] at hi
  have ho := Cert.ReferenceIdeal.GcnRefRun.out_at _ _ _ _ _ _ _ _ _ _ _ _ _ _
    (Cert.ReferenceIdeal.GcnRefRun.inv_iter _ _ _ _ _ _ _ _ _ _ _ _ _ (fun j => h9 (ix1 j)) (fun l => h11 (ix1 l)) (fun j => h13 (ix1 j))
      _ hi 8192 (le_refl _)) i j
  rw [Cert.KernelIdeal.GcnLaunch.result_eq m c]
  exact ho.trans (Cert.KernelIdeal.GcnMath.outBlock_at _ _ _ _ _ _ _ _ _ _ hf i j).symm

end Cert.Gcn

end
-- ==== Proof.lean ====
module

public import proofs.«01_k».proof.Defs
public import proofs.«01_k».proof.Proof.KernelFrame
public import proofs.«01_k».proof.Proof.Algebra
public import Idealize.ShloMosaic.Adequacy
public import Idealize.ShloMosaic.Init

@[expose] public section

set_option maxRecDepth 16384

noncomputable section

namespace Cert.Proof

open Idealize.ShloMosaic Idealize.SL.Sem

attribute [local instance] Cert.Kernel.Gen.facts Cert.KernelIdeal.Gen.facts Cert.ReferenceIdeal.Gen.facts Cert.Pre_zero_tail_biases.Gen.facts

/-- The kernel over the extended reals terminates, leaves its arguments as they were and every semaphore at zero. -/
theorem frame_kernel : Cert.quiescent_KernelIdeal := fun m g _ => Cert.KernelIdeal.GcnLaunch.quiescent (F := Ideal) m g

/-- The reference terminates, leaves its arguments as they were and every semaphore at zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Under the precondition the kernel and the reference end with equal result arrays. -/
theorem equation : Cert.algebraic_KernelIdeal_ReferenceIdeal_pre_zero_tail_biases := fun m g m' g' hp ha => by
  refine ⟨fun c => Cert.KernelIdeal.GcnLaunch.result m c, Cert.KernelIdeal.GcnLaunch.value (F := Ideal) m g, ?_⟩
  have hr := Cert.ReferenceIdeal.Value.run (F := Ideal) m' g'
  refine (θ_run Cert.ReferenceIdeal.defs _ _).mono (fun r h c => ⟨(h c).1.trans ?_, (h c).2⟩) hr
  obtain ⟨e0, _, e2, e3, e4, e5, e6, e7, e8, e9, e10, e11, e12, e13⟩ := ha c
  refine funext fun y => ?_
  rw [eq_ix2 y]
  exact Cert.Gcn.results_eq m m' hp c e0 e2 e3 e4 e5 e6 e7 e8 e9 e10 e11 e12 e13 (y 0) (y 1)

/-- Every claim of the certificate. -/
theorem claim : Cert.Claim :=
  ⟨Cert.Kernel.Gen.facts, Cert.KernelIdeal.Gen.facts, Cert.ReferenceIdeal.Gen.facts, Cert.Pre_zero_tail_biases.Gen.facts,
    Cert.Kernel.GcnFrame.quiescent, frame_kernel, fun m g _ => frame_kernel m g trivial, frame_reference,
    fun m g _ => frame_reference m g trivial, trivial, equation⟩

end Cert.Proof

end
